-- ==== Defs.lean ====
def Pre_Kernel [hPre_ids_name_rows : Cert.Pre_ids_name_rows.Facts] (m : (ℓ : Loc Cert.Kernel.nD Cert.Kernel.τ Cert.Kernel.sig) → Buf (Elt Bits) ℓ) : Prop :=
  ∀ c : Dev Cert.Kernel.nD,
    (Cert.Pre_ids_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_name_rows : Cert.Pre_ids_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_rows [hPre_ids_name_rows : Cert.Pre_ids_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_name_rows : Cert.Pre_ids_name_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_name_rows [hReferenceIdeal : Cert.ReferenceIdeal.Facts] [hPre_ids_name_rows : Cert.Pre_ids_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_name_rows : Cert.Pre_ids_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_name_rows : Cert.Pre_ids_name_rows.Facts),
    quiescent_Kernel (hKernel := hKernel) (hPre_ids_name_rows := hPre_ids_name_rows)
    ∧ quiescent_KernelIdeal (hKernelIdeal := hKernelIdeal) (hPre_ids_name_rows := hPre_ids_name_rows)
    ∧ quiescent_ReferenceIdeal (hReferenceIdeal := hReferenceIdeal)
    ∧ quiescent_ReferenceIdeal_pre_ids_name_rows (hReferenceIdeal := hReferenceIdeal) (hPre_ids_name_rows := hPre_ids_name_rows)
    ∧ preserves_Kernel_KernelIdeal
    ∧ algebraic_KernelIdeal_ReferenceIdeal (hKernelIdeal := hKernelIdeal) (hReferenceIdeal := hReferenceIdeal) (hPre_ids_name_rows := hPre_ids_name_rows)
-- ==== Pre_ids_name_rows.lean ====
abbrev S1x256x151936 : Shape := ⟨3, ![1, 256, 151936]⟩
abbrev S1x2x151936 : Shape := ⟨3, ![1, 2, 151936]⟩
abbrev S1x256x896 : Shape := ⟨3, ![1, 256, 896]⟩
abbrev S1x256 : Shape := ⟨2, ![1, 256]⟩
abbrev S151936x896 : Shape := ⟨2, ![151936, 896]⟩
abbrev S151936 : Shape := ⟨1, ![151936]⟩
abbrev S_ : Shape := ⟨0, ![]⟩

class Facts : Prop where
  bcast_S_S1x256 : S_.BroadcastsInDim S1x256 (![] : Fin 0 → Fin S1x256.rank)

variable [Facts]

def fn {F : FTy → Type} [FloatOps F] (main_arg0 : FVec F S1x256x151936 .fp8e5m2) (main_arg1 : FVec F S1x2x151936 .f32) (main_arg2 : FVec F S1x256x896 .fp8e4m3) (main_arg3 : FVec F S1x256 .f32) (main_arg4 : IVec S151936x896 8) (main_arg5 : FVec F S151936 .f32) (main_arg6 : IVec S1x256 32) (main_arg7 : FVec F S1x256x896 .bf16) : IVec S1x256 1 :=
  let main_c : IVec S_ 32 := constantI S_ 32 0#32
  let main_v0 : IVec S1x256 32 := broadcastInDim S1x256 ![] bcast_S_S1x256 main_c
  let main_v1 : IVec S1x256 1 := cmpi .sge main_arg6 main_v0
  let main_c_0 : IVec S_ 32 := constantI S_ 32 151936#32
  let main_v2 : IVec S1x256 32 := broadcastInDim S1x256 ![] bcast_S_S1x256 main_c_0
  let main_v3 : IVec S1x256 1 := cmpi .slt main_arg6 main_v2
  let main_v4 : IVec S1x256 1 := andi main_v1 main_v3
  main_v4
-- ==== Kernel.lean ====
abbrev S1x256x151936 : Shape := ⟨3, ![1, 256, 151936]⟩
abbrev S1x2x151936 : Shape := ⟨3, ![1, 2, 151936]⟩
abbrev S1x256x896 : Shape := ⟨3, ![1, 256, 896]⟩
abbrev S1x256 : Shape := ⟨2, ![1, 256]⟩
abbrev S151936x896 : Shape := ⟨2, ![151936, 896]⟩
abbrev S151936 : Shape := ⟨1, ![151936]⟩
abbrev S1x151936 : Shape := ⟨2, ![1, 151936]⟩
abbrev S1x256x2048 : Shape := ⟨3, ![1, 256, 2048]⟩
abbrev S1x2x2048 : Shape := ⟨3, ![1, 2, 2048]⟩
abbrev S1x2048 : Shape := ⟨2, ![1, 2048]⟩
abbrev S2048x896 : Shape := ⟨2, ![2048, 896]⟩
abbrev S256x896 : Shape := ⟨2, ![256, 896]⟩
abbrev S75 : Shape := ⟨1, ![75]⟩
abbrev S256 : Shape := ⟨1, ![256]⟩
abbrev S128x256 : Shape := ⟨2, ![128, 256]⟩
abbrev S256x128 : Shape := ⟨2, ![256, 128]⟩
abbrev S1x256x128 : Shape := ⟨3, ![1, 256, 128]⟩
abbrev S1 : Shape := ⟨1, ![1]⟩
abbrev S1x1 : Shape := ⟨2, ![1, 1]⟩
abbrev S2x2048 : Shape := ⟨2, ![2, 2048]⟩
abbrev S1x128x2048 : Shape := ⟨3, ![1, 128, 2048]⟩
abbrev S128x2048 : Shape := ⟨2, ![128, 2048]⟩
abbrev S256x2048 : Shape := ⟨2, ![256, 2048]⟩
abbrev S1x2x384 : Shape := ⟨3, ![1, 2, 384]⟩
abbrev S2x384 : Shape := ⟨2, ![2, 384]⟩
abbrev S1x128x384 : Shape := ⟨3, ![1, 128, 384]⟩
abbrev S128x384 : Shape := ⟨2, ![128, 384]⟩
abbrev S1x384 : Shape := ⟨2, ![1, 384]⟩
abbrev S256x384 : Shape := ⟨2, ![256, 384]⟩
abbrev S384x896 : Shape := ⟨2, ![384, 896]⟩
abbrev S1x896 : Shape := ⟨2, ![1, 896]⟩

abbrev nBuf : Space → Nat
  | .hbm => 11
  | .vmem => 17
  | .smem => 3
  | _ => 0

abbrev bufTy : (tb : Table) → Fin (tcTables nBuf tb) → BufTy
  | .hbm, ⟨0, _⟩ => ⟨S1x256x151936, .fp8e5m2⟩
  | .hbm, ⟨1, _⟩ => ⟨S1x2x151936, .f32⟩
  | .hbm, ⟨2, _⟩ => ⟨S1x256x896, .fp8e4m3⟩
  | .hbm, ⟨3, _⟩ => ⟨S1x256, .f32⟩
  | .hbm, ⟨4, _⟩ => ⟨S151936x896, .i8⟩
  | .hbm, ⟨5, _⟩ => ⟨S151936, .f32⟩
  | .hbm, ⟨6, _⟩ => ⟨S1x256, .i32⟩
  | .hbm, ⟨7, _⟩ => ⟨S1x256x896, .bf16⟩
  | .hbm, ⟨8, _⟩ => ⟨S1x151936, .f32⟩
  | .hbm, ⟨9, _⟩ => ⟨S151936x896, .f32⟩
  | .hbm, ⟨10, _⟩ => ⟨S1x256x896, .bf16⟩
  | .local _ .vmem, ⟨0, _⟩ => ⟨S1x256x2048, .fp8e5m2⟩
  | .local _ .vmem, ⟨1, _⟩ => ⟨S1x256x2048, .fp8e5m2⟩
  | .local _ .vmem, ⟨2, _⟩ => ⟨S1x2x2048, .f32⟩
  | .local _ .vmem, ⟨3, _⟩ => ⟨S1x2x2048, .f32⟩
  | .local _ .vmem, ⟨4, _⟩ => ⟨S1x2048, .f32⟩
  | .local _ .vmem, ⟨5, _⟩ => ⟨S1x2048, .f32⟩
  | .local _ .vmem, ⟨6, _⟩ => ⟨S2048x896, .i8⟩
  | .local _ .vmem, ⟨7, _⟩ => ⟨S2048x896, .i8⟩
  | .local _ .vmem, ⟨8, _⟩ => ⟨S1x256x896, .fp8e4m3⟩
  | .local _ .vmem, ⟨9, _⟩ => ⟨S1x256, .f32⟩
  | .local _ .vmem, ⟨10, _⟩ => ⟨S1x256x896, .bf16⟩
  | .local _ .vmem, ⟨11, _⟩ => ⟨S2048x896, .f32⟩
  | .local _ .vmem, ⟨12, _⟩ => ⟨S2048x896, .f32⟩
  | .local _ .vmem, ⟨13, _⟩ => ⟨S1x256x896, .bf16⟩
  | .local _ .vmem, ⟨14, _⟩ => ⟨S256x896, .bf16⟩
  | .local _ .vmem, ⟨15, _⟩ => ⟨S256x896, .f32⟩
  | .local _ .vmem, ⟨16, _⟩ => ⟨S256x896, .f32⟩
  | .local _ .smem, ⟨0, _⟩ => ⟨S1x256, .i32⟩
  | .local _ .smem, ⟨1, _⟩ => ⟨S75, .i32⟩
  | .local _ .smem, ⟨2, _⟩ => ⟨S256, .i32⟩
  | _, _ => ⟨S1x256x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_scratch3 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![75], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_41 : BitVec 32 := 0#32
  let c75_i32 : BitVec 32 := 75#32
  let v76 : BitVec 32 := Scalar.addi c0_i32_41 c75_i32
  let c1_i32 : BitVec 32 := 1#32
  ⟨c0_i32_41, v76, c1_i32⟩
def k0_off1 (k0_t1 : Fin k0_t1_loop.trips) : Fin 1 → Nat :=
  let c0_i32_41 : BitVec 32 := 0#32
  let c1_i32 : BitVec 32 := 1#32
  let arg16 : BitVec 32 := Scf.iv c0_i32_41 c1_i32 k0_t1
  let v78 : Index := Scalar.indexCast arg16
  ![v78.toNat]
@[reducible] def k0_t2_loop : Scf.Loop 32 :=
  let c0_i32_43 : BitVec 32 := 0#32
  let c256_i32 : BitVec 32 := 256#32
  let v77 : BitVec 32 := Scalar.addi c0_i32_43 c256_i32
  let c1_i32_44 : BitVec 32 := 1#32
  ⟨c0_i32_43, v77, c1_i32_44⟩
def k0_off2 (k0_t2 : Fin k0_t2_loop.trips) : Fin 2 → Nat :=
  let c0_46 : Index := 0#32
  let c0_i32_43 : BitVec 32 := 0#32
  let c1_i32_44 : BitVec 32 := 1#32
  let arg16 : BitVec 32 := Scf.iv c0_i32_43 c1_i32_44 k0_t2
  let v78 : Index := Scalar.indexCast arg16
  ![0, v78.toNat]
def k0_off3 (v79 : BitVec 32) : Fin 1 → Nat :=
  let c11_i32 : BitVec 32 := 11#32
  let v80 : BitVec 32 := Scalar.shrui v79 c11_i32
  let v81 : Index := Scalar.indexCast v80
  ![v81.toNat]

def k0_chk1 (i : grid0.Coords) (v79 : BitVec 32) : Prop :=
  (∀ (k0_h1 : k0_cond1 i = 1#1), ∀ a, (k0_off3 v79) a + S1.size a ≤ S75.size a)
theorem k0_off3_inb : ∀ (i : grid0.Coords) (v79 : BitVec 32) (k0_hw1 : k0_chk1 i v79), ∀ (k0_h1 : k0_cond1 i = 1#1), ∀ a, (k0_off3 v79) a + S1.size a ≤ S75.size a := fun i v79 k0_hw1 k0_h1 => k0_hw1 k0_h1

def k0_off4 (k0_t2 : Fin k0_t2_loop.trips) : Fin 1 → Nat :=
  let c0_i32_43 : BitVec 32 := 0#32
  let c1_i32_44 : BitVec 32 := 1#32
  let arg16 : BitVec 32 := Scf.iv c0_i32_43 c1_i32_44 k0_t2
  let v83 : Index := Scalar.indexCast arg16
  ![v83.toNat]
def k0_off5 (i : grid0.Coords) : Fin 1 → Nat :=
  let arg0 : BitVec 32 := BitVec.ofNat 32 (i 0).val
  let v9 : Index := Scalar.indexCast arg0
  ![v9.toNat]
def k0_off6 (arg16 : BitVec 32) : Fin 2 → Nat :=
  let c0 : Index := 0#32
  let v12 : Index := Scalar.indexCast arg16
  ![0, v12.toNat]

def k0_off7 (i : grid0.Coords) (v13 : BitVec 32) : Fin 2 → Nat :=
  let arg0 : BitVec 32 := BitVec.ofNat 32 (i 0).val
  let c2048_i32 : BitVec 32 := 2048#32
  let v14 : BitVec 32 := Scalar.muli arg0 c2048_i32
  let v15 : BitVec 32 := Scalar.subi v13 v14
  let v16 : Index := Scalar.indexCast v15
  let c0_4 : Index := 0#32
  ![v16.toNat, 0]

def k0_chk3 (i : grid0.Coords) (v13 : BitVec 32) : Prop :=
  (∀ a, (k0_off7 i v13) a + S1x896.size a ≤ S2048x896.size a)
theorem k0_off7_inb : ∀ (i : grid0.Coords) (v13 : BitVec 32) (k0_hw3 : k0_chk3 i v13), ∀ a, (k0_off7 i v13) a + S1x896.size a ≤ S2048x896.size a := fun i v13 k0_hw3 => k0_hw3

def k0_off8 (arg16 : BitVec 32) : Fin 2 → Nat :=
  let v19 : Index := Scalar.indexCast arg16
  let c0_5 : Index := 0#32
  ![v19.toNat, 0]
def k0_off9 (arg16 : BitVec 32) : Fin 1 → Nat :=
  let v24 : Index := Scalar.indexCast arg16
  ![v24.toNat]

def k0_chk2 (arg16 : BitVec 32) : Prop :=
  (∀ a, (k0_off6 arg16) a + S1x1.size a ≤ S1x256.size a) ∧
  (∀ a, (k0_off8 arg16) a + S1x896.size a ≤ S256x896.size a) ∧
  (∀ a, (k0_off9 arg16) a + S1.size a ≤ S256.size a)
theorem k0_off6_inb : ∀ (arg16 : BitVec 32) (k0_hw2 : k0_chk2 arg16), ∀ a, (k0_off6 arg16) a + S1x1.size a ≤ S1x256.size a := fun arg16 k0_hw2 => k0_hw2.1
theorem k0_off8_inb : ∀ (arg16 : BitVec 32) (k0_hw2 : k0_chk2 arg16), ∀ a, (k0_off8 arg16) a + S1x896.size a ≤ S256x896.size a := fun arg16 k0_hw2 => k0_hw2.2.1
theorem k0_off9_inb : ∀ (arg16 : BitVec 32) (k0_hw2 : k0_chk2 arg16), ∀ a, (k0_off9 arg16) a + S1.size a ≤ S256.size a := fun arg16 k0_hw2 => k0_hw2.2.2

def k0_cond3 (i : grid0.Coords) : BitVec 1 :=
  let arg0 : BitVec 32 := BitVec.ofNat 32 (i 0).val
  let c74_i32_2 : BitVec 32 := 74#32
  let v6 : BitVec 1 := Scalar.cmpi .eq arg0 c74_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x2048 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x896 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x896 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x896 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256x896 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x256x151936 : Shape := ⟨3, ![1, 256, 151936]⟩
abbrev S1x2x151936 : Shape := ⟨3, ![1, 2, 151936]⟩
abbrev S1x256x896 : Shape := ⟨3, ![1, 256, 896]⟩
abbrev S1x256 : Shape := ⟨2, ![1, 256]⟩
abbrev S151936x896 : Shape := ⟨2, ![151936, 896]⟩
abbrev S151936 : Shape := ⟨1, ![151936]⟩
abbrev S1x2x128x151936 : Shape := ⟨4, ![1, 2, 128, 151936]⟩
abbrev S1x2x1x151936 : Shape := ⟨4, ![1, 2, 1, 151936]⟩
abbrev S1x256x1 : Shape := ⟨3, ![1, 256, 1]⟩
abbrev S256 : Shape := ⟨1, ![256]⟩
abbrev S256x896 : Shape := ⟨2, ![256, 896]⟩
abbrev S_ : Shape := ⟨0, ![]⟩
abbrev S256x1 : Shape := ⟨2, ![256, 1]⟩
abbrev S151936x1 : Shape := ⟨2, ![151936, 1]⟩

abbrev nBuf : Space → Nat
  | .hbm => 40
  | .vmem => 6
  | .smem => 0
  | _ => 0

abbrev bufTy : (tb : Table) → Fin (tcTables nBuf tb) → BufTy
  | .hbm, ⟨0, _⟩ => ⟨S1x256x151936, .fp8e5m2⟩
  | .hbm, ⟨1, _⟩ => ⟨S1x2x151936, .f32⟩
  | .hbm, ⟨2, _⟩ => ⟨S1x256x896, .fp8e4m3⟩
  | .hbm, ⟨3, _⟩ => ⟨S1x256, .f32⟩
  | .hbm, ⟨4, _⟩ => ⟨S151936x896, .i8⟩
  | .hbm, ⟨5, _⟩ => ⟨S151936, .f32⟩
  | .hbm, ⟨6, _⟩ => ⟨S1x256, .i32⟩
  | .hbm, ⟨7, _⟩ => ⟨S1x256x896, .bf16⟩
  | .hbm, ⟨8, _⟩ => ⟨S1x256x151936, .bf16⟩
  | .hbm, ⟨9, _⟩ => ⟨S1x256x896, .bf16⟩
  | .hbm, ⟨10, _⟩ => ⟨S151936x896, .bf16⟩
  | .hbm, ⟨11, _⟩ => ⟨S1x2x128x151936, .bf16⟩
  | .hbm, ⟨12, _⟩ => ⟨S1x2x151936, .bf16⟩
  | .hbm, ⟨13, _⟩ => ⟨S1x2x1x151936, .bf16⟩
  | .hbm, ⟨14, _⟩ => ⟨S1x2x128x151936, .bf16⟩
  | .hbm, ⟨15, _⟩ => ⟨S1x2x128x151936, .bf16⟩
  | .hbm, ⟨16, _⟩ => ⟨S1x256x151936, .bf16⟩
  | .hbm, ⟨17, _⟩ => ⟨S1x256, .bf16⟩
  | .hbm, ⟨18, _⟩ => ⟨S1x256x1, .bf16⟩
  | .hbm, ⟨19, _⟩ => ⟨S1x256x896, .bf16⟩
  | .hbm, ⟨20, _⟩ => ⟨S1x256x896, .bf16⟩
  | .hbm, ⟨21, _⟩ => ⟨S151936x896, .f32⟩
  | .hbm, ⟨22, _⟩ => ⟨S256, .i32⟩
  | .hbm, ⟨23, _⟩ => ⟨S256x896, .bf16⟩
  | .hbm, ⟨24, _⟩ => ⟨S256x896, .f32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S151936x896, .f32⟩
  | .hbm, ⟨34, _⟩ => ⟨S151936, .bf16⟩
  | .hbm, ⟨35, _⟩ => ⟨S151936x1, .bf16⟩
  | .hbm, ⟨36, _⟩ => ⟨S151936x896, .bf16⟩
  | .hbm, ⟨37, _⟩ => ⟨S151936x896, .bf16⟩
  | .hbm, ⟨38, _⟩ => ⟨S1x256x896, .f32⟩
  | .hbm, ⟨39, _⟩ => ⟨S1x256x896, .bf16⟩
  | .local _ .vmem, ⟨0, _⟩ => ⟨S1x256x151936, .fp8e5m2⟩
  | .local _ .vmem, ⟨1, _⟩ => ⟨S1x256x896, .fp8e4m3⟩
  | .local _ .vmem, ⟨2, _⟩ => ⟨S151936x896, .i8⟩
  | .local _ .vmem, ⟨3, _⟩ => ⟨S1x256x151936, .bf16⟩
  | .local _ .vmem, ⟨4, _⟩ => ⟨S1x256x896, .bf16⟩
  | .local _ .vmem, ⟨5, _⟩ => ⟨S151936x896, .bf16⟩
  | _, _ => ⟨S1x256x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x256x151936 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x896 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S151936x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x151936 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S151936x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Owns.lean ====
/-
  Loads and stores of a memref of which the core owns all elements (`owns`), in terms of what the
  memref reads. A load answers the contents at the rectangle's indices (`View.ld`), an unmasked store
  replaces the contents on the rectangle (`Rect.overlay`). Nothing here depends on which buffer the
  memref is, so a kernel body is run once for all staging buffers a window may be on.
-/
module

public import Idealize.ShloMosaic.Lib.Pipeline.FrameBody
public import Idealize.ShloMosaic.Lib.Pipeline.ValueKit.Tiles

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ : Labels} {defs : Defs nD τ sig Val Λ} (𝒱 : Variants) (c : Thread nD τ) (bd : Option 𝒱.V) (E : Set Name)
variable {s : Shape} {e : EltTy} {α : Type}

/-! ## Contents under a rectangle -/

/-- The rectangle of the whole shape at zero offsets reads the contents as they are. -/
theorem ld_full {off : Fin s.rank → Nat} (h : off = fun _ => 0) (inb : ∀ a, off a + s.size a ≤ s.size a) (X : s.Idx → Val e) :
    View.ld X (Rect.unit off s.size inb) = X := by
  subst h
  exact funext fun x => congrArg X (Rect.emb_whole_apply _ x)

/-- Replacing the contents on the rectangle of the whole shape leaves the new contents. -/
theorem overlay_full {off : Fin s.rank → Nat} (h : off = fun _ => 0) (inb : ∀ a, off a + s.size a ≤ s.size a) (X w : s.Idx → Val e) :
    (Rect.unit off s.size inb).overlay X w = w := by
  subst h
  funext x
  have hx : (Rect.unit (fun _ => 0) s.size inb).emb x = x := Rect.emb_whole_apply _ x
  have := (Rect.unit (fun _ => 0) s.size inb).overlay_emb X w x
  rwa [hx] at this

/-- A unit rectangle's contents after a replacement at an index: the new value if the index lies in the
    rectangle, the old one otherwise. -/
theorem overlay_unit_of_mem {off size : Fin s.rank → Nat} (inb : ∀ a, off a + size a ≤ s.size a) (X : s.Idx → Val e)
    (w : (Rect.unit off size inb).shape.Idx → Val e) (x : (Rect.unit off size inb).shape.Idx) (y : s.Idx)
    (h : ∀ a, (y a : Nat) = off a + (x a : Nat)) : (Rect.unit off size inb).overlay X w y = w x := by
  have hy : y = (Rect.unit off size inb).emb x :=
    funext fun a => Fin.ext ((h a).trans (Rect.idx_unit_val off size inb x a).symm)
  rw [hy]; exact Rect.overlay_emb _ X w x

theorem overlay_unit_of_not_mem {off size : Fin s.rank → Nat} (inb : ∀ a, off a + size a ≤ s.size a) (X : s.Idx → Val e)
    (w : (Rect.unit off size inb).shape.Idx → Val e) (y : s.Idx) (a : Fin s.rank)
    (h : (y a : Nat) < off a ∨ off a + size a ≤ (y a : Nat)) : (Rect.unit off size inb).overlay X w y = X y := by
  refine Rect.overlay_of_not_mem _ X w fun hm => ?_
  have := Rect.mem_set_unit.mp hm a
  omega

/-- What a memref reads after a store through one of its rectangles. -/
theorem read_write_access {cs : CoreSpace} {κ : Kind} (m : Memref sig κ cs s e) (r : Rect s) (f : m.view.ty.Contents Val) (w : r.shape.Idx → Val e) :
    m.view.read Val ((m.access r).write Val f w Finset.univ) = r.overlay (m.view.read Val f) w := by
  funext y
  by_cases hy : y ∈ r.set
  · rw [← Rect.map_emb_univ, Finset.mem_map] at hy
    obtain ⟨x, -, rfl⟩ := hy
    rw [Rect.overlay_emb]
    exact View.read_write_of_mem (v := m.access r) f w (Finset.mem_univ x)
  · rw [Rect.overlay_of_not_mem _ _ _ hy]
    rw [View.read_apply, View.read_apply]
    congr 1
    refine View.write_of_not_mem (v := m.access r) f w Finset.univ fun hm => hy ?_
    obtain ⟨x, -, hx⟩ := Finset.mem_map.mp hm
    have hy' : r.emb x = y := m.view.emb.injective hx
    rw [← hy', ← Rect.map_emb_univ]
    exact Finset.mem_map_of_mem _ (Finset.mem_univ x)

/-! ## The rules -/

/-- A load of an owned memref answers its contents at the rectangle's indices. -/
theorem wp_load_owns {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k (View.ld X r)) Q)
        -∗ wp frame (wpE defs 𝒱 c bd) E (.op (.load m r hl) k) Q) := by
  unfold owns
  iintro ⟨%f, %hf, H⟩ Hk
  iapply (wp_load 𝒱 c bd E (m := m) (r := r) (m.view.setOn_subset_set _)) $$ H
  iintro H
  have h : m.view.readAt Val r f = View.ld X r := by subst hf; rfl
  rw [h]
  iapply Hk
  iexists f; isplitr
  · ipureintro; exact hf
  · iexact H

/-- The same with the answer named. -/
theorem wp_load_owns_eq {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e}
    {Y : r.shape.Idx → Val e} {Q : α → sProp 𝕄} (h : View.ld X r = Y) :
    (owns c m q X : sProp 𝕄)
      ⊢ iprop((owns c m q X -∗ wp frame (wpE defs 𝒱 c bd) E (k Y) Q)
        -∗ wp frame (wpE defs 𝒱 c bd) E (.op (.load m r hl) k) Q) := by
  subst h; exact wp_load_owns 𝒱 c bd E

/-- A store into an owned memref replaces its contents on the rectangle. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} {Q : α → sProp 𝕄} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (S := m.view.set)
    (by rw [View.setOn_univ]; exact m.view.set_slice_subset r)) $$ H
  iintro H
  iapply Hk
  iexists _; isplitr
  · ipureintro; rw [← hf]; exact read_write_access m r f w
  · iexact H

/-- The same with the new contents named. -/
theorem wp_store_owns_eq {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X Y : s.Idx → Val e} {Q : α → sProp 𝕄} (h : r.overlay X w = Y) :
    (owns c m fullShare X : sProp 𝕄)
      ⊢ iprop((owns c m fullShare Y -∗ wp frame (wpE defs 𝒱 c bd) E (k ⟨⟩) Q)
        -∗ wp frame (wpE defs 𝒱 c bd) E (.op (.store m r w Finset.univ hx hm) k) Q) := by
  subst h; exact wp_store_owns 𝒱 c bd E

end Cert.Own

end
-- ==== Proof.Link.lean ====
/-
  The linked list that sorts 256 row numbers by tiles of 2048 rows, and the addition of the listed rows.
  `prev ids k n` is the head of tile `k`'s list once the first `n` entries are in it: the last entry below
  `n` whose row lies in tile `k`, or the word of `-1`. `fold` is what a walk of that list does to a tile:
  from the last entry to the first, entry `t` adds row `t` of a table to the tile's row.
-/
module

public import Idealize.ShloMosaic.Lib.ValueIdxCore

@[expose] public section

noncomputable section

namespace Cert.Link

open Idealize.ShloMosaic Idealize.ShloMosaic.ValueIdx

/-- The row number of entry `t` (zero beyond the 256 entries). -/
def row (ids : (⟨2, ![1, 256]⟩ : Shape).Idx → BitVec 32) (t : ℕ) : ℕ :=
  if h : t < 256 then (ids (ix2 0 ⟨t, h⟩)).toNat else 0

/-- The head of tile `k`'s list after the first `n` entries. -/
def prev (ids : (⟨2, ![1, 256]⟩ : Shape).Idx → BitVec 32) (k : ℕ) : ℕ → BitVec 32
  | 0 => 4294967295#32
  | n + 1 => if row ids n / 2048 = k then BitVec.ofNat 32 n else prev ids k n

/-- The 75 heads after the first `n` entries. -/
def heads (ids : (⟨2, ![1, 256]⟩ : Shape).Idx → BitVec 32) (n : ℕ) : (⟨1, ![75]⟩ : Shape).Idx → BitVec 32 :=
  fun y => prev ids (y 0).val n

/-- The links: entry `t` names the entry before it in its tile. -/
def links (ids : (⟨2, ![1, 256]⟩ : Shape).Idx → BitVec 32) : (⟨1, ![256]⟩ : Shape).Idx → BitVec 32 :=
  fun y => prev ids (row ids (y 0).val / 2048) (y 0).val

/-- One step of the walk: row `t` of the table is added to the tile's row `r`. -/
def step {α : Type} (add : α → α → α) (tab : (⟨2, ![256, 896]⟩ : Shape).Idx → α) (r : ℕ) (t : Fin 256)
    (de : (⟨2, ![2048, 896]⟩ : Shape).Idx → α) : (⟨2, ![2048, 896]⟩ : Shape).Idx → α :=
  fun y => if (y 0).val = r then add (de y) (tab (ix2 t (y 1))) else de y

/-- The walk of tile `k`'s list over the first `n` entries, last entry first. -/
def fold {α : Type} (add : α → α → α) (ids : (⟨2, ![1, 256]⟩ : Shape).Idx → BitVec 32)
    (tab : (⟨2, ![256, 896]⟩ : Shape).Idx → α) (k : ℕ) :
    ℕ → ((⟨2, ![2048, 896]⟩ : Shape).Idx → α) → (⟨2, ![2048, 896]⟩ : Shape).Idx → α
  | 0, de => de
  | n + 1, de => if h : n < 256 ∧ row ids n / 2048 = k
      then fold add ids tab k n (step add tab (row ids n % 2048) ⟨n, h.1⟩ de)
      else fold add ids tab k n de

theorem prev_succ_hit (ids : (⟨2, ![1, 256]⟩ : Shape).Idx → BitVec 32) {k n : ℕ} (h : row ids n / 2048 = k) :
    prev ids k (n + 1) = BitVec.ofNat 32 n := if_pos h

theorem prev_succ_miss (ids : (⟨2, ![1, 256]⟩ : Shape).Idx → BitVec 32) {k n : ℕ} (h : row ids n / 2048 ≠ k) :
    prev ids k (n + 1) = prev ids k n := if_neg h

/-- What the walk leaves at an element depends on what was there alone. -/
theorem fold_congr {α : Type} (add : α → α → α) (ids : (⟨2, ![1, 256]⟩ : Shape).Idx → BitVec 32)
    (tab : (⟨2, ![256, 896]⟩ : Shape).Idx → α) (k : ℕ) (y : (⟨2, ![2048, 896]⟩ : Shape).Idx) :
    ∀ (n : ℕ) (de de' : (⟨2, ![2048, 896]⟩ : Shape).Idx → α), de y = de' y →
      fold add ids tab k n de y = fold add ids tab k n de' y
  | 0, _, _, h => h
  | n + 1, de, de', h => by
    unfold fold
    split
    · exact fold_congr add ids tab k y n _ _ (by unfold step; rw [h])
    · exact fold_congr add ids tab k y n _ _ h

end Cert.Link

end
-- ==== Proof.K.While.lean ====
/-
  The walk of one tile's list. The `while`'s label is answered through a specification: holding the row
  numbers, the table and the links, and the tile at `de`, it returns with the tile at `Link.fold … n de` when it
  is entered at the head of the list of the first `n` entries. Its body meets the specification by
  induction on `n`.
-/
module

public import proofs.«01_k».proof.Proof.Owns
public import proofs.«01_k».proof.Proof.Link
public import proofs.«01_k».proof.Proof.Gen.Kernel.Skeleton
public import proofs.«01_k».proof.Proof.Gen.Kernel.Launch
public import proofs.«01_k».proof.Proof.Gen.Kernel.Points
public import Idealize.ShloMosaic.Lib.Tactic

@[expose] public section

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-- The label is entered at a number of steps still to go. -/
abbrev 𝒱₀ : Variants := Variants.nat

/-! ### Words -/

/-- The word of a number below 256 is not negative. -/
theorem sge_ofNat : ∀ n : Fin 256, Scalar.cmpi .sge (BitVec.ofNat 32 n.val) 0#32 = 1#1 := by decide +kernel

theorem off6_ofNat : ∀ n : Fin 256, k0_off6 (BitVec.ofNat 32 n.val) = ![0, n.val] := by decide +kernel
theorem off8_ofNat : ∀ n : Fin 256, k0_off8 (BitVec.ofNat 32 n.val) = ![n.val, 0] := by decide +kernel
theorem off9_ofNat : ∀ n : Fin 256, k0_off9 (BitVec.ofNat 32 n.val) = ![n.val] := by decide +kernel

/-- A row of tile `i`, counted from the tile's first row. -/
theorem off7_eq (i : grid0.Coords) (v : BitVec 32) (h : v.toNat / 2048 = (i 0).val) :
    k0_off7 i v = ![v.toNat % 2048, 0] := by
  have hi : (i 0).val < 75 := (i 0).isLt
  have hv : (Scalar.indexCast (Scalar.subi v (Scalar.muli (BitVec.ofNat 32 (i 0).val) 2048#32)) : Index).toNat = v.toNat % 2048 := by
    show (v - BitVec.ofNat 32 (i 0).val * 2048#32).toNat = v.toNat % 2048
    rw [BitVec.toNat_sub, BitVec.toNat_mul, BitVec.toNat_ofNat, BitVec.toNat_ofNat]
    omega
  unfold k0_off7
  simp only [hv]

theorem chk2_ofNat (n : Fin 256) : k0_chk2 (BitVec.ofNat 32 n.val) := by
  have hn := n.isLt
  refine ⟨?_, ?_, ?_⟩
  · rw [off6_ofNat]; intro a; fin_cases a <;> simp <;> omega
  · rw [off8_ofNat]; intro a; fin_cases a <;> simp <;> omega
  · rw [off9_ofNat]; intro a; fin_cases a; simp; omega

theorem chk3_of (i : grid0.Coords) (v : BitVec 32) (h : v.toNat / 2048 = (i 0).val) : k0_chk3 i v := by
  unfold k0_chk3
  rw [off7_eq i v h]; intro a; fin_cases a <;> simp <;> omega

/-- One word read: the contents at the rectangle's one index. -/
theorem ld_one2 {α : EltTy → Type} {e : EltTy} (X : S1x256.Idx → α e) {off : Fin 2 → ℕ} (n : Fin 256) (ho : off = ![0, n.val])
    (inb : ∀ a, off a + S1x1.size a ≤ S1x256.size a) :
    View.ld X (Rect.unit (s := S1x256) off S1x1.size inb) = fun _ => X (ix2 0 n) := by
  subst ho
  funext x
  rw [View.ld_apply]
  congr 1
  have h0 := (x 0).isLt; have h1 := (x 1).isLt
  funext a; apply Fin.ext; rw [Rect.idx_unit_val]
  fin_cases a
  · show 0 + (x 0).val = 0; simp at h0 ⊢; omega
  · show n.val + (x 1).val = n.val; simp at h1 ⊢; omega

theorem ld_one1 {α : EltTy → Type} {e : EltTy} {K : ℕ} (X : (⟨1, ![K]⟩ : Shape).Idx → α e) {off : Fin 1 → ℕ} (n : Fin K) (ho : off = ![n.val])
    (inb : ∀ a, off a + S1.size a ≤ (⟨1, ![K]⟩ : Shape).size a) :
    View.ld X (Rect.unit (s := ⟨1, ![K]⟩) off S1.size inb) = fun _ => X (ix1 n) := by
  subst ho
  funext x
  rw [View.ld_apply]
  congr 1
  have h0 := (x 0).isLt
  funext a; apply Fin.ext; rw [Rect.idx_unit_val]
  fin_cases a
  show n.val + (x 0).val = n.val; simp at h0 ⊢; omega

/-- A row of the tile read, the table's row added and the sum stored is one step of the walk. -/
theorem overlay_row (de : S2048x896.Idx → Elt F .f32) (tab : S256x896.Idx → Elt F .f32) {o7 o8 : Fin 2 → ℕ} (r : ℕ) (n : Fin 256)
    (h7 : o7 = ![r, 0]) (h8 : o8 = ![n.val, 0])
    (inb7 : ∀ a, o7 a + S1x896.size a ≤ S2048x896.size a) (inb8 : ∀ a, o8 a + S1x896.size a ≤ S256x896.size a) :
    (Rect.unit (s := S2048x896) o7 S1x896.size inb7).overlay de
      (k0_pay5 (View.ld de (Rect.unit (s := S2048x896) o7 S1x896.size inb7))
        (View.ld tab (Rect.unit (s := S256x896) o8 S1x896.size inb8)))
      = step (FloatOps.addf (F := F) (φ := .f32)) tab r n de := by
  subst h7 h8
  funext y
  unfold step
  by_cases hy : (y 0).val = r
  · rw [if_pos hy]
    let x : S1x896.Idx := ix2 0 (y 1)
    refine (overlay_unit_of_mem inb7 de _ x y ?_).trans ?_
    · intro a; fin_cases a
      · show (y 0).val = r + 0; omega
      · show (y 1).val = 0 + (y 1).val; omega
    unfold k0_pay5
    rw [shapeCast_self]
    show FloatOps.addf (View.ld de (Rect.unit (s := S2048x896) ![r, 0] S1x896.size inb7) x) (View.ld tab (Rect.unit (s := S256x896) ![n.val, 0] S1x896.size inb8) x) = _
    congr 1
    · show de _ = de _
      congr 1; funext a; apply Fin.ext
      refine (Rect.idx_unit_val _ _ inb7 x a).trans ?_
      fin_cases a
      · show r + 0 = (y 0).val; omega
      · show 0 + (y 1).val = (y 1).val; omega
    · show tab _ = tab _
      congr 1; funext a; apply Fin.ext
      refine (Rect.idx_unit_val _ _ inb8 x a).trans ?_
      fin_cases a
      · show n.val + 0 = n.val; omega
      · show 0 + (y 1).val = (y 1).val; omega
  · rw [if_neg hy]
    refine overlay_unit_of_not_mem inb7 de _ y 0 ?_
    show (y 0).val < r ∨ r + 1 ≤ (y 0).val
    omega

/-! ### The label -/

section Label

variable (c : Dev nD) (i : grid0.Coords)
  (arg1 : Memref sig .tc .smem S1x256 .i32) (harg1 : arg1.IsWhole) (arg9 : Memref sig .tc .vmem S2048x896 .f32) (harg9 : arg9.IsWhole)
  (arg12 : Memref sig .tc .vmem S256x896 .f32) (harg12 : arg12.IsWhole) (arg15 : Memref sig .tc .smem S256 .i32) (harg15 : arg15.IsWhole)
  (ids : S1x256.Idx → BitVec 32) (tab : S256x896.Idx → Elt F .f32)

/-- The four buffers of the walk: row numbers, tile, table and links. -/
def held (de : S2048x896.Idx → Elt F .f32) : sProp 𝕄 :=
  iprop(owns (c : Thread nD τ) arg1 fullShare ids ∗ owns (c : Thread nD τ) arg9 fullShare de
    ∗ owns (c : Thread nD τ) arg12 fullShare tab ∗ owns (c : Thread nD τ) arg15 fullShare (links ids))

/-- The label's specification entered with the first `n` entries to walk. -/
def spec (n : ℕ) (de : S2048x896.Idx → Elt F .f32) : sWPT 𝕄 (BitVec 32) := do
  sWPT.consume (held c arg1 arg9 arg12 arg15 ids tab de)
  let r ← sWPT.arbitrary
  sWPT.produce (held c arg1 arg9 arg12 arg15 ids tab (fold (FloatOps.addf (F := F) (φ := .f32)) ids tab (i 0).val n de))
  pure r

theorem spec_apply (n : ℕ) (de : S2048x896.Idx → Elt F .f32) (K : BitVec 32 → sProp 𝕄) :
    spec c i arg1 arg9 arg12 arg15 ids tab n de K
      = iprop(held c arg1 arg9 arg12 arg15 ids tab de ∗ ∀ r : BitVec 32,
          (held c arg1 arg9 arg12 arg15 ids tab (fold (FloatOps.addf (F := F) (φ := .f32)) ids tab (i 0).val n de) -∗ K r)) := rfl

/-- The label's body meets the specification, entered at the head of the list of the first `n` entries. -/
theorem spec_le (E : Set ℕ) :
    ∀ n, n ≤ 256 → ∀ kk, n ≤ kk → ∀ de K, spec c i arg1 arg9 arg12 arg15 ids tab n de K
      ⊢ wp frame (wpE (defs₀ (F := F)) 𝒱₀ (c : Thread nD τ) (some kk)) E
          (defs₀ (F := F) .tc 1 ⟨i, arg1, harg1, arg9, harg9, arg12, harg12, arg15, harg15, prev ids (i 0).val n⟩) K := by
  intro n
  induction n with
  | zero =>
    intro _ kk hk de K
    rw [spec_apply]
    show _ ⊢ wp frame (wpE (defs₀ (F := F)) 𝒱₀ (c : Thread nD τ) (some kk)) E
      (cc0_while1 i arg1 harg1 arg9 harg9 arg12 harg12 arg15 harg15 4294967295#32) K
    simp only [cc0_while1_eq_skeleton]; unfold cc0_while1_skel
    have htest : ¬ Scalar.cmpi .sge 4294967295#32 0#32 = 1#1 := by decide
    simp only [htest, ↓reduceIte, Prog.pure_eq_ret]
    iintro ⟨H, Hk⟩
    rw [wp_ret]; imodintro
    iapply Hk
    iexact H
  | succ n ih =>
    intro hn kk hk de K
    by_cases hit : row ids n / 2048 = (i 0).val
    swap
    · rw [prev_succ_miss ids hit]
      have e : spec c i arg1 arg9 arg12 arg15 ids tab (n + 1) de = spec c i arg1 arg9 arg12 arg15 ids tab n de := by
        unfold spec; rw [fold, dif_neg (fun h => hit h.2)]
      rw [e]
      exact ih (by omega) kk (by omega) de K
    rw [prev_succ_hit ids hit, spec_apply, fold, dif_pos ⟨by omega, hit⟩]
    let nn : Fin 256 := ⟨n, by omega⟩
    have hid : (ids (ix2 0 nn)).toNat = row ids n := by unfold row; rw [dif_pos nn.isLt]
    have hlink : links ids (ix1 nn) = prev ids (i 0).val n := by unfold links; exact congrArg (fun k => prev ids k n) hit
    show _ ⊢ wp frame (wpE (defs₀ (F := F)) 𝒱₀ (c : Thread nD τ) (some kk)) E
      (cc0_while1 i arg1 harg1 arg9 harg9 arg12 harg12 arg15 harg15 (BitVec.ofNat 32 nn.val)) K
    simp only [cc0_while1_eq_skeleton]; unfold cc0_while1_skel
    simp only [sge_ofNat nn, ↓reduceIte, smemLoad, smemLoadElt, Prog.lift, Prog.bind_op, Prog.bind_ret, Prog.pure_eq_ret]
    unfold held
    iintro ⟨⟨H1, H9, H12, H15⟩, Hk⟩
    iapply (wp_assume 𝒱₀ (c : Thread nD τ) (some kk) E (chk2_ofNat nn))
    iapply (wp_load_owns_eq 𝒱₀ (c : Thread nD τ) (some kk) E (m := arg1)
      (ld_one2 (α := Elt F) (e := .i32) ids nn (off6_ofNat nn) _)) $$ H1; iintro H1
    have h3 : (ids (ix2 0 nn)).toNat / 2048 = (i 0).val := by rw [hid]; exact hit
    iapply (wp_assume 𝒱₀ (c : Thread nD τ) (some kk) E (chk3_of i _ h3))
    iapply (wp_load_owns 𝒱₀ (c : Thread nD τ) (some kk) E (m := arg9)) $$ H9; iintro H9
    iapply (wp_load_owns 𝒱₀ (c : Thread nD τ) (some kk) E (m := arg12)) $$ H12; iintro H12
    iapply (wp_load_owns 𝒱₀ (c : Thread nD τ) (some kk) E (m := arg9)) $$ H9; iintro H9
    iapply (wp_store_owns_eq 𝒱₀ (c : Thread nD τ) (some kk) E (m := arg9)
      (overlay_row de tab (row ids n % 2048) nn (hid ▸ off7_eq i _ h3) (off8_ofNat nn) _ _)) $$ H9; iintro H9
    iapply (wp_load_owns_eq 𝒱₀ (c : Thread nD τ) (some kk) E (m := arg15)
      (ld_one1 (α := Elt F) (e := .i32) (links ids) nn (off9_ofNat nn) _)) $$ H15; iintro H15
    rw [hlink]
    iapply (wp_call_spec 𝒱₀ (c : Thread nD τ) (some kk) E
      (spec c i arg1 arg9 arg12 arg15 ids tab n (step (FloatOps.addf (F := F) (φ := .f32)) tab (row ids n % 2048) nn de)) n
      (fun u hu => by cases hu; exact Nat.lt_of_succ_le hk)
      (ih (by omega) n (Nat.le_refl n) _))
    rw [spec_apply]; unfold held
    isplitl [H1 H9 H12 H15]
    · isplitl [H1]; · iexact H1
      isplitl [H9]; · iexact H9
      isplitl [H12]; · iexact H12
      iexact H15
    iintro %r H
    rw [wp_ret]; imodintro
    iapply Hk
    iexact H

end Label

end Cert.Proof.K

end
-- ==== Proof.K.Loops.lean ====
/-
  The two counted loops of the first point: the heads are all set to the word of `-1`, then the 256 entries
  are put in their tiles' lists one after the other.
-/
module

public import proofs.«01_k».proof.Proof.K.While

@[expose] public section

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-! ### Trips and offsets -/

theorem trips1 : k0_t1_loop.trips = 75 := by decide +kernel
theorem trips2 : k0_t2_loop.trips = 256 := by decide +kernel

/-- The tile of a row number. -/
theorem off3_eq (v : BitVec 32) : k0_off3 v = ![v.toNat / 2048] := by
  have hv : (Scalar.indexCast (Scalar.shrui v 11#32) : Index).toNat = v.toNat / 2048 := by
    show (IntOp.shrui .scalar v 11#32).toNat = _
    simp [IntOp.shrui, IntOp.cornerWord, Nat.shiftRight_eq_div_pow]
  unfold k0_off3
  simp only [hv]

theorem chk1_of (i : grid0.Coords) (v : BitVec 32) (h : v.toNat < 151936) : k0_chk1 i v := by
  intro _
  rw [off3_eq]; intro a; fin_cases a; simp; omega

/-- One word stored: the contents with that word replaced. -/
theorem overlay_one {K : ℕ} (X Y : (⟨1, ![K]⟩ : Shape).Idx → Elt F .i32) {off : Fin 1 → ℕ} (n : ℕ) (ho : off = ![n])
    (inb : ∀ a, off a + S1.size a ≤ (⟨1, ![K]⟩ : Shape).size a) (w : Elt F .i32)
    (hY : ∀ y, Y y = if (y 0).val = n then w else X y) :
    (Rect.unit (s := ⟨1, ![K]⟩) off S1.size inb).overlay X (fun _ => w) = Y := by
  subst ho
  funext y
  rw [hY]
  by_cases h : (y 0).val = n
  · rw [if_pos h]
    refine overlay_unit_of_mem inb X (fun _ => w) (ix1 0 : S1.Idx) y ?_
    intro a; fin_cases a; show (y 0).val = n + 0; omega
  · rw [if_neg h]
    refine overlay_unit_of_not_mem inb X _ y 0 ?_
    show (y 0).val < n ∨ n + 1 ≤ (y 0).val
    omega

/-! ### The loops -/

section Loops

variable (c : Dev nD) (i : grid0.Coords)
  (arg1 : Memref sig .tc .smem S1x256 .i32) (harg1 : arg1.IsWhole)
  (arg2 : Memref sig .tc .vmem S1x256x2048 .fp8e5m2) (harg2 : arg2.IsWhole)
  (arg3 : Memref sig .tc .vmem S1x2x2048 .f32) (harg3 : arg3.IsWhole)
  (arg4 : Memref sig .tc .vmem S1x2048 .f32) (harg4 : arg4.IsWhole)
  (arg5 : Memref sig .tc .vmem S2048x896 .i8) (harg5 : arg5.IsWhole)
  (arg6 : Memref sig .tc .vmem S1x256x896 .fp8e4m3) (harg6 : arg6.IsWhole)
  (arg7 : Memref sig .tc .vmem S1x256 .f32) (harg7 : arg7.IsWhole)
  (arg8 : Memref sig .tc .vmem S1x256x896 .bf16) (harg8 : arg8.IsWhole)
  (arg9 : Memref sig .tc .vmem S2048x896 .f32) (harg9 : arg9.IsWhole)
  (arg10 : Memref sig .tc .vmem S1x256x896 .bf16) (harg10 : arg10.IsWhole)
  (arg11 : Memref sig .tc .vmem S256x896 .bf16) (harg11 : arg11.IsWhole)
  (arg12 : Memref sig .tc .vmem S256x896 .f32) (harg12 : arg12.IsWhole)
  (arg13 : Memref sig .tc .vmem S256x896 .f32) (harg13 : arg13.IsWhole)
  (arg14 : Memref sig .tc .smem S75 .i32) (harg14 : arg14.IsWhole)
  (arg15 : Memref sig .tc .smem S256 .i32) (harg15 : arg15.IsWhole)
  (ids : S1x256.Idx → BitVec 32)

/-- Before trip `k` of the first loop the first `k` heads are the word of `-1`. -/
def inv1 (k : ℕ) (_ : Unit) : sProp 𝕄 :=
  iprop(∃ X : S75.Idx → BitVec 32, ⌜∀ y, (y 0).val < k → X y = 4294967295#32⌝ ∗ owns (c : Thread nD τ) arg14 fullShare X)

theorem trip1 (E : Set ℕ) (h1 : k0_cond1 i = 1#1) (k : Fin k0_t1_loop.trips) (acc : Unit) :
    inv1 (F := F) c arg14 k.val acc ⊢ wp frame (wpE (defs₀ (F := F)) 𝒱₀ (c : Thread nD τ) none) E
      (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 h1 k acc) (inv1 (F := F) c arg14 (k.val + 1)) := by
  unfold inv1 k0_t1_body
  simp only [smemLoad, smemLoadElt, Prog.lift, Prog.bind_op, Prog.bind_ret, Prog.pure_eq_ret]
  iintro ⟨%X, %hX, H⟩
  iapply (wp_load_owns 𝒱₀ (c : Thread nD τ) none E (m := arg14)) $$ H; iintro H
  iapply (wp_store_owns_eq 𝒱₀ (c : Thread nD τ) none E (m := arg14)
    (overlay_one (F := F) X (fun y => if (y 0).val = k.val then 4294967295#32 else X y) k.val (k0_off1_eq k) _ _ fun _ => rfl)) $$ H; iintro H
  rw [wp_ret]; imodintro
  iexists (fun y : S75.Idx => if (y 0).val = k.val then 4294967295#32 else X y); isplitr
  · ipureintro
    intro y hy
    dsimp only
    split
    · rfl
    · exact hX y (by omega)
  · iexact H

/-- The first loop sets every head to the word of `-1`: the heads before the first entry. -/
theorem loop1 (E : Set ℕ) (h1 : k0_cond1 i = 1#1) (X : S75.Idx → BitVec 32) (Q : Unit → sProp 𝕄) :
    iprop(owns (c : Thread nD τ) arg14 fullShare X ∗ (owns (c : Thread nD τ) arg14 fullShare (heads ids 0) -∗ Q ⟨⟩))
      ⊢ wp frame (wpE (defs₀ (F := F)) 𝒱₀ (c : Thread nD τ) none) E
        (Scf.Loop.for k0_t1_loop (k0_t1_ok i h1) ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 h1)) Q := by
  iintro ⟨H, Hk⟩
  iapply (Scf.wp_for frame (wpE (defs₀ (F := F)) 𝒱₀ (c : Thread nD τ) none) E _ _ _ (k0_t1_ok i h1) ⟨⟩ _ (inv1 c arg14)
    (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 E h1))
  isplitl [H]
  · unfold inv1
    iexists X; isplitr
    · ipureintro; intro y hy; exact absurd hy (Nat.not_lt_zero _)
    · iexact H
  iintro %acc HI
  unfold inv1
  icases HI with ⟨%Y, %hY, H⟩
  have e : Y = heads ids 0 := funext fun y => hY y (lt_of_lt_of_eq (y 0).isLt trips1.symm)
  rw [e]
  iapply Hk; iexact H

/-- Before trip `n` of the second loop the first `n` entries are in their lists. -/
def inv2 (n : ℕ) (_ : Unit) : sProp 𝕄 :=
  iprop(owns (c : Thread nD τ) arg1 fullShare ids ∗ owns (c : Thread nD τ) arg14 fullShare (heads ids n)
    ∗ ∃ X : S256.Idx → BitVec 32, ⌜∀ y, (y 0).val < n → X y = links ids y⌝ ∗ owns (c : Thread nD τ) arg15 fullShare X)

theorem trip2 (E : Set ℕ) (h1 : k0_cond1 i = 1#1) (hids : ∀ t, row ids t < 151936) (k : Fin k0_t2_loop.trips) (acc : Unit) :
    inv2 (F := F) c arg1 arg14 arg15 ids k.val acc ⊢ wp frame (wpE (defs₀ (F := F)) 𝒱₀ (c : Thread nD τ) none) E
      (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 h1 k acc) (inv2 (F := F) c arg1 arg14 arg15 ids (k.val + 1)) := by
  have hk : k.val < 256 := lt_of_lt_of_eq k.isLt trips2
  let nn : Fin 256 := ⟨k.val, hk⟩
  have hid : (ids (ix2 0 nn)).toNat = row ids k.val := by unfold row; rw [dif_pos hk]
  have hr : row ids k.val < 151936 := hids _
  let tt : Fin 75 := ⟨row ids k.val / 2048, by omega⟩
  have h3 : k0_off3 (ids (ix2 0 nn)) = ![tt.val] := by rw [off3_eq, hid]
  have hiv : Scf.iv 0#32 1#32 k = BitVec.ofNat 32 k.val := by
    show 0#32 + BitVec.ofNat 32 k.val * 1#32 = _
    simp
  unfold inv2 k0_t2_body
  simp only [smemLoad, smemLoadElt, Prog.lift, Prog.bind_op, Prog.bind_ret, Prog.pure_eq_ret]
  iintro ⟨H1, H14, %X, %hX, H15⟩
  iapply (wp_load_owns_eq 𝒱₀ (c : Thread nD τ) none E (m := arg1)
    (ld_one2 (α := Elt F) (e := .i32) ids nn (k0_off2_eq k) _)) $$ H1; iintro H1
  iapply (wp_assume 𝒱₀ (c : Thread nD τ) none E (chk1_of i _ (hid ▸ hr)))
  iapply (wp_load_owns_eq 𝒱₀ (c : Thread nD τ) none E (m := arg14)
    (ld_one1 (α := Elt F) (e := .i32) (heads ids k.val) tt h3 _)) $$ H14; iintro H14
  iapply (wp_load_owns 𝒱₀ (c : Thread nD τ) none E (m := arg15)) $$ H15; iintro H15
  iapply (wp_store_owns_eq 𝒱₀ (c : Thread nD τ) none E (m := arg15)
    (overlay_one (F := F) X (fun y => if (y 0).val = k.val then heads ids k.val (ix1 tt) else X y) k.val (k0_off4_eq k) _ _ fun _ => rfl)) $$ H15; iintro H15
  iapply (wp_load_owns 𝒱₀ (c : Thread nD τ) none E (m := arg14)) $$ H14; iintro H14
  iapply (wp_store_owns_eq 𝒱₀ (c : Thread nD τ) none E (m := arg14)
    (overlay_one (F := F) (heads ids k.val) (heads ids (k.val + 1)) tt.val h3 _ _ (by
      intro y
      show prev ids (y 0).val (k.val + 1) = if (y 0).val = tt.val then _ else prev ids (y 0).val k.val
      by_cases h : (y 0).val = tt.val
      · rw [if_pos h, prev_succ_hit ids h.symm]; exact hiv.symm
      · rw [if_neg h, prev_succ_miss ids fun e => h e.symm]))) $$ H14; iintro H14
  rw [wp_ret]; imodintro
  isplitl [H1]; · iexact H1
  isplitl [H14]; · iexact H14
  iexists (fun y : S256.Idx => if (y 0).val = k.val then heads ids k.val (ix1 tt) else X y); isplitr
  · ipureintro
    intro y hy
    dsimp only
    split
    · rename_i h
      unfold links heads
      rw [h]
    · exact hX y (by omega)
  · iexact H15

/-- The second loop leaves the heads of all 256 entries and the links. -/
theorem loop2 (E : Set ℕ) (h1 : k0_cond1 i = 1#1) (hids : ∀ t, row ids t < 151936) (X : S256.Idx → BitVec 32) (Q : Unit → sProp 𝕄) :
    iprop(owns (c : Thread nD τ) arg1 fullShare ids ∗ owns (c : Thread nD τ) arg14 fullShare (heads ids 0)
        ∗ owns (c : Thread nD τ) arg15 fullShare X
        ∗ ((owns (c : Thread nD τ) arg1 fullShare ids ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E
        (Scf.Loop.for k0_t2_loop (k0_t2_ok i h1) ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 h1)) Q := by
  iintro ⟨H1, H14, H15, Hk⟩
  iapply (Scf.wp_for frame (wpE (defs₀ (F := F)) 𝒱₀ (c : Thread nD τ) none) E _ _ _ (k0_t2_ok i h1) ⟨⟩ _ (inv2 c arg1 arg14 arg15 ids)
    (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 ids E h1 hids))
  isplitl [H1 H14 H15]
  · unfold inv2
    isplitl [H1]; · iexact H1
    isplitl [H14]; · iexact H14
    iexists X; isplitr
    · ipureintro; intro y hy; exact absurd hy (Nat.not_lt_zero _)
    · iexact H15
  iintro %acc HI
  unfold inv2
  icases HI with ⟨H1, H14, %Y, %hY, H15⟩
  have e : Y = links ids := funext fun y => hY y (lt_of_lt_of_eq (y 0).isLt trips2.symm)
  rw [e]
  have e2 : Scf.trips k0_t2_loop.lb k0_t2_loop.ub k0_t2_loop.st = 256 := trips2
  rw [e2]
  iapply Hk
  isplitl [H1]; · iexact H1
  isplitl [H14]; · iexact H14
  iexact H15

end Loops

end Cert.Proof.K

end
-- ==== Proof.K.Init.lean ====
/-
  What the first point prepares: the hidden rows times their scales, stored in seven column chunks, the table of
  widened rows, and a zero sum.
-/
module

public import proofs.«01_k».proof.Proof.K.Loops
public import Idealize.ShloMosaic.Lib.ValueLayout

@[expose] public section

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-- The scaled hidden rows: each element widened, times its row's rounded scale. -/
def hhOf (h : S1x256x896.Idx → Elt F .fp8e4m3) (hs : S1x256.Idx → Elt F .f32) : S256x896.Idx → Elt F .bf16 :=
  fun y => FloatOps.mulf (FloatOps.extf .bf16 bitsLt_fp8e4m3_bf16 (h (ix3 0 (y 0) (y 1)))) (FloatOps.truncf .bf16 bitsLt_bf16_f32 (hs (ix2 0 (y 0))))

/-- Contents that are `G` on the first `n` columns. -/
def cols {α : Type} (n : ℕ) (X G : S256x896.Idx → α) : S256x896.Idx → α := fun y => if (y 1).val < n then G y else X y

theorem cols_zero {α : Type} (X G : S256x896.Idx → α) : cols 0 X G = X := rfl
theorem cols_all {α : Type} (X G : S256x896.Idx → α) : cols 896 X G = G := funext fun y => if_pos (y 1).isLt

/-- The next chunk of 128 columns stored. -/
theorem overlay_cols {e : EltTy} (X G : S256x896.Idx → Elt F e) {off : Fin 2 → ℕ} (o o' : ℕ) (ho : off = ![0, o]) (ho' : o' = o + 128)
    (inb : ∀ a, off a + S256x128.size a ≤ S256x896.size a) (w : S256x128.Idx → Elt F e)
    (hw : ∀ (p : Fin 256) (q : Fin 128) (q' : Fin 896), q'.val = o + q.val → w (ix2 p q) = G (ix2 p q')) :
    (Rect.unit (s := S256x896) off S256x128.size inb).overlay (cols o X G) w = cols o' X G := by
  subst ho ho'
  funext y
  obtain ⟨p, r, rfl⟩ : ∃ (p : Fin 256) (r : Fin 896), y = ix2 p r := ⟨y 0, y 1, eq_ix2 y⟩
  by_cases h : o ≤ r.val ∧ r.val < o + 128
  · let q : Fin 128 := ⟨r.val - o, by omega⟩
    refine (overlay_unit_of_mem inb _ w (ix2 p q) (ix2 p r) ?_).trans ?_
    · intro a; fin_cases a
      · show p.val = 0 + p.val; omega
      · show r.val = o + (r.val - o); omega
    · rw [hw p q r (by show _ = o + (r.val - o); omega)]
      exact (if_pos h.2).symm
  · refine (overlay_unit_of_not_mem inb _ w (ix2 p r) 1 ?_).trans ?_
    · show r.val < o ∨ o + 128 ≤ r.val; omega
    · show (if r.val < o then _ else _) = if r.val < o + 128 then _ else _
      by_cases h' : r.val < o
      · rw [if_pos h', if_pos (by omega)]
      · rw [if_neg h', if_neg (by omega)]

/-- The rounded scales, one row's scale in all of its columns. -/
theorem pay8_apply (hs : Vec F S1x256 .f32) (p : Fin 256) (q : Fin 128) :
    k0_pay8 hs (ix2 p q) = FloatOps.truncf .bf16 bitsLt_bf16_f32 (hs (ix2 0 p)) := by
  unfold k0_pay8
  show FloatOps.truncf .bf16 _ (transpose S256x128 [1, 0] _ _ (ix2 p q)) = _
  rw [transpose_ix2_apply, broadcastTo_1b_ab_apply, shapeCast_self]

/-- One chunk of the scaled rows. -/
theorem chunk_apply (h : S1x256x896.Idx → Elt F .fp8e4m3) (hs : Vec F S1x256 .f32) {off : Fin 3 → ℕ} (o : ℕ) (ho : off = ![0, 0, o])
    (inb : ∀ a, off a + S1x256x128.size a ≤ S1x256x896.size a) (p : Fin 256) (q : Fin 128) (q' : Fin 896) (hq : q'.val = o + q.val) :
    mulf (extf .bf16 (shapeCast S256x128 (View.ld h (Rect.unit (s := S1x256x896) off S1x256x128.size inb) : Vec F S1x256x128 .fp8e4m3)
        shapeCasts_S1x256x128_S256x128) bitsLt_fp8e4m3_bf16) (k0_pay8 hs) (ix2 p q) = hhOf h hs (ix2 p q') := by
  subst ho
  show FloatOps.mulf (FloatOps.extf .bf16 _ (shapeCast S256x128 _ _ (ix2 p q))) (k0_pay8 hs (ix2 p q)) = _
  rw [pay8_apply, shapeCast_1ab_ab_apply]
  show FloatOps.mulf (FloatOps.extf .bf16 _ (h _)) _ = FloatOps.mulf (FloatOps.extf .bf16 _ (h (ix3 0 p q'))) _
  congr 3
  funext a; apply Fin.ext
  refine (Rect.idx_unit_val _ _ inb (ix3 0 p q) a).trans ?_
  fin_cases a
  · rfl
  · show 0 + p.val = p.val; omega
  · show o + q.val = q'.val; omega

theorem z2 : (![0, 0] : Fin 2 → ℕ) = fun _ => 0 := by funext a; fin_cases a <;> rfl
theorem z3 : (![0, 0, 0] : Fin 3 → ℕ) = fun _ => 0 := by funext a; fin_cases a <;> rfl

section Init

variable (c : Dev nD) (i : grid0.Coords)
  (arg1 : Memref sig .tc .smem S1x256 .i32) (harg1 : arg1.IsWhole)
  (arg2 : Memref sig .tc .vmem S1x256x2048 .fp8e5m2) (harg2 : arg2.IsWhole)
  (arg3 : Memref sig .tc .vmem S1x2x2048 .f32) (harg3 : arg3.IsWhole)
  (arg4 : Memref sig .tc .vmem S1x2048 .f32) (harg4 : arg4.IsWhole)
  (arg5 : Memref sig .tc .vmem S2048x896 .i8) (harg5 : arg5.IsWhole)
  (arg6 : Memref sig .tc .vmem S1x256x896 .fp8e4m3) (harg6 : arg6.IsWhole)
  (arg7 : Memref sig .tc .vmem S1x256 .f32) (harg7 : arg7.IsWhole)
  (arg8 : Memref sig .tc .vmem S1x256x896 .bf16) (harg8 : arg8.IsWhole)
  (arg9 : Memref sig .tc .vmem S2048x896 .f32) (harg9 : arg9.IsWhole)
  (arg10 : Memref sig .tc .vmem S1x256x896 .bf16) (harg10 : arg10.IsWhole)
  (arg11 : Memref sig .tc .vmem S256x896 .bf16) (harg11 : arg11.IsWhole)
  (arg12 : Memref sig .tc .vmem S256x896 .f32) (harg12 : arg12.IsWhole)
  (arg13 : Memref sig .tc .vmem S256x896 .f32) (harg13 : arg13.IsWhole)
  (arg14 : Memref sig .tc .smem S75 .i32) (harg14 : arg14.IsWhole)
  (arg15 : Memref sig .tc .smem S256 .i32) (harg15 : arg15.IsWhole)

theorem part1_wp (E : Set ℕ) (h : S1x256x896.Idx → Elt F .fp8e4m3) (hs : S1x256.Idx → Elt F .f32) (demb : S1x256x896.Idx → Elt F .bf16)
    (X11 : S256x896.Idx → Elt F .bf16) (X12 X13 : S256x896.Idx → Elt F .f32)
    (Q : (Σ' (v26 : FVec F S256x128 .bf16), FVec F S256x128 .bf16) → sProp 𝕄) :
    iprop(owns (c : Thread nD τ) arg6 fullShare h ∗ owns (c : Thread nD τ) arg7 fullShare hs ∗ owns (c : Thread nD τ) arg8 fullShare demb
        ∗ owns (c : Thread nD τ) arg11 fullShare X11 ∗ owns (c : Thread nD τ) arg12 fullShare X12 ∗ owns (c : Thread nD τ) arg13 fullShare X13
        ∗ ((owns (c : Thread nD τ) arg6 fullShare h ∗ owns (c : Thread nD τ) arg7 fullShare hs ∗ owns (c : Thread nD τ) arg8 fullShare demb
          ∗ owns (c : Thread nD τ) arg11 fullShare (cols 256 X11 (hhOf h hs)) ∗ owns (c : Thread nD τ) arg12 fullShare (k0_pay7 demb)
          ∗ owns (c : Thread nD τ) arg13 fullShare (k0_pay6 (F := F)))
          -∗ Q ⟨k0_pay8 hs, k0_pay11 hs (View.ld h (Rect.unit (s := S1x256x896) ![0, 0, 256] S1x256x128.size inb_S1x256x896_S1x256x128_0_0_256))⟩))
      ⊢ wp frame (wpE (defs₀ (F := F)) 𝒱₀ (c : Thread nD τ) none) E (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  rw [k0_part1_eq_skeleton]; unfold k0_part1_skel
  simp only [Prog.lift, Prog.bind_op, Prog.bind_ret, Prog.pure_eq_ret]
  rw [show (owns (c : Thread nD τ) arg11 fullShare X11 : sProp 𝕄) = owns (c : Thread nD τ) arg11 fullShare (cols 0 X11 (hhOf h hs)) from rfl]
  iintro ⟨H6, H7, H8, H11, H12, H13, Hk⟩
  iapply (wp_load_owns 𝒱₀ (c : Thread nD τ) none E (m := arg13)) $$ H13; iintro H13
  iapply (wp_store_owns_eq 𝒱₀ (c : Thread nD τ) none E (m := arg13) (overlay_full z2 _ X13 _)) $$ H13; iintro H13
  iapply (wp_load_owns_eq 𝒱₀ (c : Thread nD τ) none E (m := arg8) (ld_full z3 _ demb)) $$ H8; iintro H8
  iapply (wp_load_owns 𝒱₀ (c : Thread nD τ) none E (m := arg12)) $$ H12; iintro H12
  iapply (wp_store_owns_eq 𝒱₀ (c : Thread nD τ) none E (m := arg12) (overlay_full z2 _ X12 _)) $$ H12; iintro H12
  iapply (wp_load_owns_eq 𝒱₀ (c : Thread nD τ) none E (m := arg7) (ld_full z2 _ hs)) $$ H7; iintro H7
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 0 128 rfl rfl _ _ (fun p q q' hq => by
      unfold k0_pay9; rw [shapeCast_self]; exact chunk_apply h hs 0 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 128 256 rfl rfl _ _ (fun p q q' hq => by
      unfold k0_pay10; rw [shapeCast_self]; exact chunk_apply h hs 128 rfl _ p q q' hq))) $$ H11; iintro H11
  iapply (wp_load_owns 𝒱₀ (c : Thread nD τ) none E (m := arg6)) $$ H6; iintro H6
  rw [wp_ret]; imodintro
  iapply Hk
  isplitl [H6]; · iexact H6
  isplitl [H7]; · iexact H7
  isplitl [H8]; · iexact H8
  isplitl [H11]; · iexact H11
  isplitl [H12]; · iexact H12
  iexact H13

theorem part2_wp (E : Set ℕ) (h : S1x256x896.Idx → Elt F .fp8e4m3) (hs : S1x256.Idx → Elt F .f32)
    (X11 : S256x896.Idx → Elt F .bf16) (Q : (Σ' (c0_i32_41 : BitVec 32), BitVec 32) → sProp 𝕄) :
    iprop(owns (c : Thread nD τ) arg6 fullShare h ∗ owns (c : Thread nD τ) arg11 fullShare (cols 256 X11 (hhOf h hs))
        ∗ ((owns (c : Thread nD τ) arg6 fullShare h ∗ owns (c : Thread nD τ) arg11 fullShare (hhOf h hs)) -∗ Q ⟨0#32, 75#32⟩))
      ⊢ wp frame (wpE (defs₀ (F := F)) 𝒱₀ (c : Thread nD τ) none) E (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay8 hs)
          (k0_pay11 hs (View.ld h (Rect.unit (s := S1x256x896) ![0, 0, 256] S1x256x128.size inb_S1x256x896_S1x256x128_0_0_256)))) Q := by
  rw [k0_part2_eq_skeleton]; unfold k0_part2_skel
  simp only [Prog.lift, Prog.bind_op, Prog.bind_ret, Prog.pure_eq_ret]
  iintro ⟨H6, H11, Hk⟩
  iapply (wp_load_owns 𝒱₀ (c : Thread nD τ) none E (m := arg11)) $$ H11; iintro H11
  iapply (wp_store_owns_eq 𝒱₀ (c : Thread nD τ) none E (m := arg11)
    (overlay_cols X11 (hhOf h hs) 256 384 rfl rfl _ _ (fun p q q' hq => by
      unfold k0_pay12 k0_pay11; rw [shapeCast_self]; exact chunk_apply h hs 256 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 384 512 rfl rfl _ _ (fun p q q' hq => by
      unfold k0_pay13; rw [shapeCast_self]; exact chunk_apply h hs 384 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 512 640 rfl rfl _ _ (fun p q q' hq => by
      unfold k0_pay14; rw [shapeCast_self]; exact chunk_apply h hs 512 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 640 768 rfl rfl _ _ (fun p q q' hq => by
      unfold k0_pay15; rw [shapeCast_self]; exact chunk_apply h hs 640 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 768 896 rfl rfl _ _ (fun p q q' hq => by
      unfold k0_pay16; rw [shapeCast_self]; exact chunk_apply h hs 768 rfl _ p q q' hq))) $$ H11; iintro H11
  rw [cols_all, wp_ret]; imodintro
  iapply Hk
  isplitl [H6]; · iexact H6
  iexact H11

end Init

end Cert.Proof.K

end
-- ==== Proof.K.Tile.lean ====
/-
  The body at each point, for any staging buffers: every point stores its tile of the second result, adds the
  tile's product to the first result's sum and walks the tile's list. The first point prepares the scratch
  buffers before that; the last one works on the 384 rows that exist and stores the first result.
-/
module

public import proofs.«01_k».proof.Proof.K.Init

@[expose] public section

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-- Which branches a point takes. -/
theorem cond1_iff : ∀ i : grid0.Coords, k0_cond1 i = 1#1 ↔ (i 0).val = 0 := by decide +kernel
theorem cond3_iff : ∀ i : grid0.Coords, k0_cond3 i = 1#1 ↔ (i 0).val = 74 := by decide +kernel
theorem cond2_iff : ∀ i : grid0.Coords,
    Scalar.cmpi .ne (Scalar.extui (Scalar.cmpi .slt (BitVec.ofNat 32 (i 0).val) 74#32) : BitVec 32) 0#32 = 1#1 ↔ (i 0).val < 74 := by
  decide +kernel

/-- The two halves of the sequence in a tile. -/
abbrev halfA (X2 : S1x256x2048.Idx → Elt F .fp8e5m2) : Vec F S1x128x2048 .fp8e5m2 :=
  View.ld X2 (Rect.unit (s := S1x256x2048) ![0, 0, 0] S1x128x2048.size inb_S1x256x2048_S1x128x2048_0_0_0)
abbrev halfB (X2 : S1x256x2048.Idx → Elt F .fp8e5m2) : Vec F S1x128x2048 .fp8e5m2 :=
  View.ld X2 (Rect.unit (s := S1x256x2048) ![0, 128, 0] S1x128x2048.size inb_S1x256x2048_S1x128x2048_0_128_0)

/-- The valid part of the last tile: 384 rows of the vocabulary. -/
abbrev cutA (X2 : S1x256x2048.Idx → Elt F .fp8e5m2) : Vec F S1x128x384 .fp8e5m2 :=
  View.ld X2 (Rect.unit (s := S1x256x2048) ![0, 0, 0] S1x128x384.size inb_S1x256x2048_S1x128x384_0_0_0)
abbrev cutB (X2 : S1x256x2048.Idx → Elt F .fp8e5m2) : Vec F S1x128x384 .fp8e5m2 :=
  View.ld X2 (Rect.unit (s := S1x256x2048) ![0, 128, 0] S1x128x384.size inb_S1x256x2048_S1x128x384_0_128_0)
abbrev cut3 (X3 : S1x2x2048.Idx → Elt F .f32) : Vec F S1x2x384 .f32 :=
  View.ld X3 (Rect.unit (s := S1x2x2048) ![0, 0, 0] S1x2x384.size inb_S1x2x2048_S1x2x384_0_0_0)
abbrev cut4 (X4 : S1x2048.Idx → Elt F .f32) : Vec F S1x384 .f32 :=
  View.ld X4 (Rect.unit (s := S1x2048) ![0, 0] S1x384.size inb_S1x2048_S1x384_0_0)
abbrev cut5 (X5 : S2048x896.Idx → Elt F .i8) : Vec F S384x896 .i8 :=
  View.ld X5 (Rect.unit (s := S2048x896) ![0, 0] S384x896.size inb_S2048x896_S384x896_0_0)
/-- Contents of the tile with the first 384 rows stored. -/
abbrev put9 (X9 : S2048x896.Idx → Elt F .f32) (w : FVec F S384x896 .f32) : S2048x896.Idx → Elt F .f32 :=
  (Rect.unit (s := S2048x896) ![0, 0] S384x896.size inb_S2048x896_S384x896_0_0).overlay X9 w

section Tile

variable (c : Dev nD) (i : grid0.Coords)
  (arg1 : Memref sig .tc .smem S1x256 .i32) (harg1 : arg1.IsWhole)
  (arg2 : Memref sig .tc .vmem S1x256x2048 .fp8e5m2) (harg2 : arg2.IsWhole)
  (arg3 : Memref sig .tc .vmem S1x2x2048 .f32) (harg3 : arg3.IsWhole)
  (arg4 : Memref sig .tc .vmem S1x2048 .f32) (harg4 : arg4.IsWhole)
  (arg5 : Memref sig .tc .vmem S2048x896 .i8) (harg5 : arg5.IsWhole)
  (arg6 : Memref sig .tc .vmem S1x256x896 .fp8e4m3) (harg6 : arg6.IsWhole)
  (arg7 : Memref sig .tc .vmem S1x256 .f32) (harg7 : arg7.IsWhole)
  (arg8 : Memref sig .tc .vmem S1x256x896 .bf16) (harg8 : arg8.IsWhole)
  (arg9 : Memref sig .tc .vmem S2048x896 .f32) (harg9 : arg9.IsWhole)
  (arg10 : Memref sig .tc .vmem S1x256x896 .bf16) (harg10 : arg10.IsWhole)
  (arg11 : Memref sig .tc .vmem S256x896 .bf16) (harg11 : arg11.IsWhole)
  (arg12 : Memref sig .tc .vmem S256x896 .f32) (harg12 : arg12.IsWhole)
  (arg13 : Memref sig .tc .vmem S256x896 .f32) (harg13 : arg13.IsWhole)
  (arg14 : Memref sig .tc .smem S75 .i32) (harg14 : arg14.IsWhole)
  (arg15 : Memref sig .tc .smem S256 .i32) (harg15 : arg15.IsWhole)
  (ids : S1x256.Idx → BitVec 32)

/-- A point that is neither the first nor the last. -/
theorem body_mid (E : Set ℕ) (h0 : (i 0).val ≠ 0) (h74 : (i 0).val < 74)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (hh : S256x896.Idx → Elt F .bf16) (tab acc : S256x896.Idx → Elt F .f32) (Q : PUnit → sProp 𝕄) :
    iprop(owns (c : Thread nD τ) arg1 fullShare ids
        ∗ owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg9 fullShare X9
        ∗ owns (c : Thread nD τ) arg11 fullShare hh
        ∗ owns (c : Thread nD τ) arg12 fullShare tab
        ∗ owns (c : Thread nD τ) arg13 fullShare acc
        ∗ owns (c : Thread nD τ) arg14 fullShare (heads ids 256)
        ∗ owns (c : Thread nD τ) arg15 fullShare (links ids)
        ∗ ((owns (c : Thread nD τ) arg1 fullShare ids
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg9 fullShare (fold (FloatOps.addf (F := F) (φ := .f32)) ids tab (i 0).val 256 (k0_pay2 X3 (halfA X2) (halfB X2) hh))
          ∗ owns (c : Thread nD τ) arg11 fullShare hh
          ∗ owns (c : Thread nD τ) arg12 fullShare tab
          ∗ owns (c : Thread nD τ) arg13 fullShare (k0_pay3 X3 (halfA X2) (halfB X2) X4 acc X5)
          ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E (cc0_tied_head_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have c1 : ¬ k0_cond1 i = 1#1 := fun h => h0 ((cond1_iff i).mp h)
  have c2 := (cond2_iff i).mpr h74
  have c3 : ¬ k0_cond3 i = 1#1 := fun h => absurd ((cond3_iff i).mp h) (by omega)
  rw [cc0_tied_head_bwd_eq_skeleton]; unfold cc0_tied_head_bwd_skel
  rw [dif_neg c1]
  simp only [dif_neg c3, dif_pos c2, smemLoad, smemLoadElt, Prog.lift, Prog.bind_op, Prog.bind_ret, Prog.pure_eq_ret]
  iintro ⟨H1, H2, H3, H4, H5, H9, H11, H12, H13, H14, H15, Hk⟩
  iapply (wp_load_owns_eq 𝒱₀ (c : Thread nD τ) none E (m := arg3) (ld_full z3 _ X3)) $$ H3; iintro H3
  iapply (wp_load_owns 𝒱₀ (c : Thread nD τ) none E (m := arg2)) $$ H2; iintro H2
  iapply (wp_load_owns 𝒱₀ (c : Thread nD τ) none E (m := arg2)) $$ H2; iintro H2
  iapply (wp_load_owns_eq 𝒱₀ (c : Thread nD τ) none E (m := arg11) (ld_full z2 _ hh)) $$ H11; iintro H11
  iapply (wp_load_owns 𝒱₀ (c : Thread nD τ) none E (m := arg9)) $$ H9; iintro H9
  iapply (wp_store_owns_eq 𝒱₀ (c : Thread nD τ) none E (m := arg9) (overlay_full z2 _ X9 _)) $$ H9; iintro H9
  iapply (wp_load_owns_eq 𝒱₀ (c : Thread nD τ) none E (m := arg4) (ld_full z2 _ X4)) $$ H4; iintro H4
  iapply (wp_load_owns_eq 𝒱₀ (c : Thread nD τ) none E (m := arg13) (ld_full z2 _ acc)) $$ H13; iintro H13
  iapply (wp_load_owns_eq 𝒱₀ (c : Thread nD τ) none E (m := arg5) (ld_full z2 _ X5)) $$ H5; iintro H5
  iapply (wp_load_owns 𝒱₀ (c : Thread nD τ) none E (m := arg13)) $$ H13; iintro H13
  iapply (wp_store_owns_eq 𝒱₀ (c : Thread nD τ) none E (m := arg13) (overlay_full z2 _ acc _)) $$ H13; iintro H13
  iapply (wp_load_owns_eq 𝒱₀ (c : Thread nD τ) none E (m := arg14)
    (ld_one1 (α := Elt F) (e := .i32) (heads ids 256) (i 0) (k0_off5_eq i) _)) $$ H14; iintro H14
  iapply (wp_call_spec 𝒱₀ (c : Thread nD τ) none E (spec c i arg1 arg9 arg12 arg15 ids tab 256 (k0_pay2 X3 (halfA X2) (halfB X2) hh)) 256
    (fun u hu => nomatch hu) (spec_le c i arg1 harg1 arg9 harg9 arg12 harg12 arg15 harg15 ids tab E 256 (Nat.le_refl _) 256 (Nat.le_refl _) _))
  rw [spec_apply]; unfold held
  isplitl [H1 H9 H12 H15]
  · isplitl [H1]; · iexact H1
    isplitl [H9]; · iexact H9
    isplitl [H12]; · iexact H12
    iexact H15
  iintro %r ⟨H1, H9, H12, H15⟩
  rw [wp_ret]; imodintro
  iapply Hk
  isplitl [H1]; · iexact H1
  isplitl [H2]; · iexact H2
  isplitl [H3]; · iexact H3
  isplitl [H4]; · iexact H4
  isplitl [H5]; · iexact H5
  isplitl [H9]; · iexact H9
  isplitl [H11]; · iexact H11
  isplitl [H12]; · iexact H12
  isplitl [H13]; · iexact H13
  isplitl [H14]; · iexact H14
  iexact H15

theorem part3_wp (E : Set ℕ)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (hh : S256x896.Idx → Elt F .bf16) (acc : S256x896.Idx → Elt F .f32) (Q : Vec F S256x896 .f32 → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg9 fullShare X9
        ∗ owns (c : Thread nD τ) arg11 fullShare hh
        ∗ owns (c : Thread nD τ) arg13 fullShare acc
        ∗ ((owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg9 fullShare (put9 X9 (k0_pay18 (cut3 X3) (cutA X2) (cutB X2) hh))
          ∗ owns (c : Thread nD τ) arg11 fullShare hh
          ∗ owns (c : Thread nD τ) arg13 fullShare (k0_pay19 (cut3 X3) (cutA X2) (cutB X2) (cut4 X4) acc (cut5 X5))) -∗ Q (k0_pay19 (cut3 X3) (cutA X2) (cutB X2) (cut4 X4) acc (cut5 X5))))
      ⊢ wp frame (wpE (defs₀ (F := F)) 𝒱₀ (c : Thread nD τ) none) E (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  rw [k0_part3_eq_skeleton]; unfold k0_part3_skel
  simp only [Prog.lift, Prog.bind_op, Prog.bind_ret, Prog.pure_eq_ret]
  iintro ⟨H2, H3, H4, H5, H9, H11, H13, Hk⟩
  iapply (wp_load_owns 𝒱₀ (c : Thread nD τ) none E (m := arg3)) $$ H3; iintro H3
  iapply (wp_load_owns 𝒱₀ (c : Thread nD τ) none E (m := arg2)) $$ H2; iintro H2
  iapply (wp_load_owns 𝒱₀ (c : Thread nD τ) none E (m := arg2)) $$ H2; iintro H2
  iapply (wp_load_owns_eq 𝒱₀ (c : Thread nD τ) none E (m := arg11) (ld_full z2 _ hh)) $$ H11; iintro H11
  iapply (wp_load_owns 𝒱₀ (c : Thread nD τ) none E (m := arg9)) $$ H9; iintro H9
  iapply (wp_store_owns 𝒱₀ (c : Thread nD τ) none E (m := arg9)) $$ H9; iintro H9
  iapply (wp_load_owns 𝒱₀ (c : Thread nD τ) none E (m := arg4)) $$ H4; iintro H4
  iapply (wp_load_owns_eq 𝒱₀ (c : Thread nD τ) none E (m := arg13) (ld_full z2 _ acc)) $$ H13; iintro H13
  iapply (wp_load_owns 𝒱₀ (c : Thread nD τ) none E (m := arg5)) $$ H5; iintro H5
  iapply (wp_load_owns 𝒱₀ (c : Thread nD τ) none E (m := arg13)) $$ H13; iintro H13
  iapply (wp_store_owns_eq 𝒱₀ (c : Thread nD τ) none E (m := arg13) (overlay_full z2 _ acc _)) $$ H13; iintro H13
  iapply (wp_load_owns_eq 𝒱₀ (c : Thread nD τ) none E (m := arg13) (ld_full z2 _ _)) $$ H13; iintro H13
  rw [wp_ret]; imodintro
  iapply Hk
  isplitl [H2]; · iexact H2
  isplitl [H3]; · iexact H3
  isplitl [H4]; · iexact H4
  isplitl [H5]; · iexact H5
  isplitl [H9]; · iexact H9
  isplitl [H11]; · iexact H11
  iexact H13

/-- The last point: only the tile's first 384 rows exist, and the first result is stored. -/
theorem body_last (E : Set ℕ) (h74 : (i 0).val = 74)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (X10 : S1x256x896.Idx → Elt F .bf16) (hh : S256x896.Idx → Elt F .bf16) (tab acc : S256x896.Idx → Elt F .f32) (Q : PUnit → sProp 𝕄) :
    iprop(owns (c : Thread nD τ) arg1 fullShare ids
        ∗ owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg9 fullShare X9
        ∗ owns (c : Thread nD τ) arg10 fullShare X10
        ∗ owns (c : Thread nD τ) arg11 fullShare hh
        ∗ owns (c : Thread nD τ) arg12 fullShare tab
        ∗ owns (c : Thread nD τ) arg13 fullShare acc
        ∗ owns (c : Thread nD τ) arg14 fullShare (heads ids 256)
        ∗ owns (c : Thread nD τ) arg15 fullShare (links ids)
        ∗ ((owns (c : Thread nD τ) arg1 fullShare ids
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg9 fullShare (fold (FloatOps.addf (F := F) (φ := .f32)) ids tab (i 0).val 256 (put9 X9 (k0_pay18 (cut3 X3) (cutA X2) (cutB X2) hh)))
          ∗ owns (c : Thread nD τ) arg10 fullShare (k0_pay4 (k0_pay19 (cut3 X3) (cutA X2) (cutB X2) (cut4 X4) acc (cut5 X5)))
          ∗ owns (c : Thread nD τ) arg11 fullShare hh
          ∗ owns (c : Thread nD τ) arg12 fullShare tab
          ∗ owns (c : Thread nD τ) arg13 fullShare (k0_pay19 (cut3 X3) (cutA X2) (cutB X2) (cut4 X4) acc (cut5 X5))
          ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E (cc0_tied_head_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have c1 : ¬ k0_cond1 i = 1#1 := fun h => absurd ((cond1_iff i).mp h) (by omega)
  have c2 : ¬ _ := fun h => absurd ((cond2_iff i).mp h) (by omega)
  have c3 := (cond3_iff i).mpr h74
  rw [cc0_tied_head_bwd_eq_skeleton]; unfold cc0_tied_head_bwd_skel
  rw [dif_neg c1]
  simp only [dif_pos c3, dif_neg c2, smemLoad, smemLoadElt, Prog.lift, Prog.bind_op, Prog.bind_ret, Prog.pure_eq_ret, bind_assoc]
  rw [wp_bind]
  iintro ⟨H1, H2, H3, H4, H5, H9, H10, H11, H12, H13, H14, H15, Hk⟩
  iapply (part3_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 E X2 X3 X4 X5 X9 hh acc)
  isplitl [H2]; · iexact H2
  isplitl [H3]; · iexact H3
  isplitl [H4]; · iexact H4
  isplitl [H5]; · iexact H5
  isplitl [H9]; · iexact H9
  isplitl [H11]; · iexact H11
  isplitl [H13]; · iexact H13
  iintro ⟨H2, H3, H4, H5, H9, H11, H13⟩
  iapply (wp_load_owns 𝒱₀ (c : Thread nD τ) none E (m := arg10)) $$ H10; iintro H10
  iapply (wp_store_owns_eq 𝒱₀ (c : Thread nD τ) none E (m := arg10) (overlay_full z3 _ X10 _)) $$ H10; iintro H10
  iapply (wp_load_owns_eq 𝒱₀ (c : Thread nD τ) none E (m := arg14)
    (ld_one1 (α := Elt F) (e := .i32) (heads ids 256) (i 0) (k0_off5_eq i) _)) $$ H14; iintro H14
  iapply (wp_call_spec 𝒱₀ (c : Thread nD τ) none E (spec c i arg1 arg9 arg12 arg15 ids tab 256 (put9 X9 (k0_pay18 (cut3 X3) (cutA X2) (cutB X2) hh))) 256
    (fun u hu => nomatch hu) (spec_le c i arg1 harg1 arg9 harg9 arg12 harg12 arg15 harg15 ids tab E 256 (Nat.le_refl _) 256 (Nat.le_refl _) _))
  rw [spec_apply]; unfold held
  isplitl [H1 H9 H12 H15]
  · isplitl [H1]; · iexact H1
    isplitl [H9]; · iexact H9
    isplitl [H12]; · iexact H12
    iexact H15
  iintro %r ⟨H1, H9, H12, H15⟩
  rw [wp_ret]; imodintro
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  iexact H15

/-- The first point: it prepares the scratch buffers, then does what every tile does. -/
theorem body_first (E : Set ℕ) (h0 : (i 0).val = 0) (hids : ∀ t, row ids t < 151936)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (h : S1x256x896.Idx → Elt F .fp8e4m3) (hs : S1x256.Idx → Elt F .f32) (demb : S1x256x896.Idx → Elt F .bf16)
    (X11 : S256x896.Idx → Elt F .bf16) (X12 X13 : S256x896.Idx → Elt F .f32) (X14 : S75.Idx → BitVec 32) (X15 : S256.Idx → BitVec 32)
    (Q : PUnit → sProp 𝕄) :
    iprop(owns (c : Thread nD τ) arg1 fullShare ids
        ∗ owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare h
        ∗ owns (c : Thread nD τ) arg7 fullShare hs
        ∗ owns (c : Thread nD τ) arg8 fullShare demb
        ∗ owns (c : Thread nD τ) arg9 fullShare X9
        ∗ owns (c : Thread nD τ) arg11 fullShare X11
        ∗ owns (c : Thread nD τ) arg12 fullShare X12
        ∗ owns (c : Thread nD τ) arg13 fullShare X13
        ∗ owns (c : Thread nD τ) arg14 fullShare X14
        ∗ owns (c : Thread nD τ) arg15 fullShare X15
        ∗ ((owns (c : Thread nD τ) arg1 fullShare ids
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare h
          ∗ owns (c : Thread nD τ) arg7 fullShare hs
          ∗ owns (c : Thread nD τ) arg8 fullShare demb
          ∗ owns (c : Thread nD τ) arg9 fullShare (fold (FloatOps.addf (F := F) (φ := .f32)) ids (k0_pay7 demb) (i 0).val 256 (k0_pay2 X3 (halfA X2) (halfB X2) (hhOf h hs)))
          ∗ owns (c : Thread nD τ) arg11 fullShare (hhOf h hs)
          ∗ owns (c : Thread nD τ) arg12 fullShare (k0_pay7 demb)
          ∗ owns (c : Thread nD τ) arg13 fullShare (k0_pay3 X3 (halfA X2) (halfB X2) X4 (k0_pay6 (F := F)) X5)
          ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E (cc0_tied_head_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have c1 := (cond1_iff i).mpr h0
  have c2 := (cond2_iff i).mpr (by omega)
  have c3 : ¬ k0_cond3 i = 1#1 := fun h => absurd ((cond3_iff i).mp h) (by omega)
  rw [cc0_tied_head_bwd_eq_skeleton]; unfold cc0_tied_head_bwd_skel
  rw [dif_pos c1]
  simp only [dif_neg c3, dif_pos c2, smemLoad, smemLoadElt, Prog.lift, Prog.bind_op, Prog.bind_ret, Prog.pure_eq_ret, bind_assoc]
  rw [wp_bind]
  iintro ⟨H1, H2, H3, H4, H5, H6, H7, H8, H9, H11, H12, H13, H14, H15, Hk⟩
  iapply (part1_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 E h hs demb X11 X12 X13)
  isplitl [H6]; · iexact H6
  isplitl [H7]; · iexact H7
  isplitl [H8]; · iexact H8
  isplitl [H11]; · iexact H11
  isplitl [H12]; · iexact H12
  isplitl [H13]; · iexact H13
  iintro ⟨H6, H7, H8, H11, H12, H13⟩
  simp only
  rw [wp_bind]
  iapply (part2_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 E h hs X11)
  isplitl [H6]; · iexact H6
  isplitl [H11]; · iexact H11
  iintro ⟨H6, H11⟩
  rw [wp_bind]
  iapply (loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 ids E c1 X14)
  isplitl [H14]; · iexact H14
  iintro H14
  rw [wp_bind]
  iapply (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 ids E c1 hids X15)
  isplitl [H1]; · iexact H1
  isplitl [H14]; · iexact H14
  isplitl [H15]; · iexact H15
  iintro ⟨H1, H14, H15⟩
  iapply (wp_load_owns_eq 𝒱₀ (c : Thread nD τ) none E (m := arg3) (ld_full z3 _ X3)) $$ H3; iintro H3
  iapply (wp_load_owns 𝒱₀ (c : Thread nD τ) none E (m := arg2)) $$ H2; iintro H2
  iapply (wp_load_owns 𝒱₀ (c : Thread nD τ) none E (m := arg2)) $$ H2; iintro H2
  iapply (wp_load_owns_eq 𝒱₀ (c : Thread nD τ) none E (m := arg11) (ld_full z2 _ (hhOf h hs))) $$ H11; iintro H11
  iapply (wp_load_owns 𝒱₀ (c : Thread nD τ) none E (m := arg9)) $$ H9; iintro H9
  iapply (wp_store_owns_eq 𝒱₀ (c : Thread nD τ) none E (m := arg9) (overlay_full z2 _ X9 _)) $$ H9; iintro H9
  iapply (wp_load_owns_eq 𝒱₀ (c : Thread nD τ) none E (m := arg4) (ld_full z2 _ X4)) $$ H4; iintro H4
  iapply (wp_load_owns_eq 𝒱₀ (c : Thread nD τ) none E (m := arg13) (ld_full z2 _ (k0_pay6 (F := F)))) $$ H13; iintro H13
  iapply (wp_load_owns_eq 𝒱₀ (c : Thread nD τ) none E (m := arg5) (ld_full z2 _ X5)) $$ H5; iintro H5
  iapply (wp_load_owns 𝒱₀ (c : Thread nD τ) none E (m := arg13)) $$ H13; iintro H13
  iapply (wp_store_owns_eq 𝒱₀ (c : Thread nD τ) none E (m := arg13) (overlay_full z2 _ (k0_pay6 (F := F)) _)) $$ H13; iintro H13
  iapply (wp_load_owns_eq 𝒱₀ (c : Thread nD τ) none E (m := arg14)
    (ld_one1 (α := Elt F) (e := .i32) (heads ids 256) (i 0) (k0_off5_eq i) _)) $$ H14; iintro H14
  iapply (wp_call_spec 𝒱₀ (c : Thread nD τ) none E (spec c i arg1 arg9 arg12 arg15 ids (k0_pay7 demb) 256 (k0_pay2 X3 (halfA X2) (halfB X2) (hhOf h hs))) 256
    (fun u hu => nomatch hu) (spec_le c i arg1 harg1 arg9 harg9 arg12 harg12 arg15 harg15 ids (k0_pay7 demb) E 256 (Nat.le_refl _) 256 (Nat.le_refl _) _))
  rw [spec_apply]; unfold held
  isplitl [H1 H9 H12 H15]
  · isplitl [H1]; · iexact H1
    isplitl [H9]; · iexact H9
    isplitl [H12]; · iexact H12
    iexact H15
  iintro %r ⟨H1, H9, H12, H15⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  iexact H15

end Tile

end Cert.Proof.K

end
-- ==== Proof.K.Data.lean ====
/-
  What the buffers hold between the points of the grid: the blocks the windows fetch, the sum that grows tile
  by tile, the tile each point writes.
-/
module

public import proofs.«01_k».proof.Proof.K.Tile

@[expose] public section

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Own Cert.Link

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the kernel finds them: the launch contents, with the vocabulary scales reshaped to a row. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- The row numbers. -/
abbrev idsOf (c : Dev nD) : S1x256.Idx → BitVec 32 := V m c main_arg6

/-- Window 1's block at point `t`, the part inside the array, -/
def blk1 (c : Dev nD) (t : Fin grid0.N) : (win0_1.xblock (grid0.coords t)).Idx → Elt F .fp8e5m2 :=
  (win0_1.blk t).view.read (Elt F) (V m c main_arg0)
/-- and filled out with zeros past the array's end. -/
def tile1 (c : Dev nD) (t : Fin grid0.N) : S1x256x2048.Idx → Elt F .fp8e5m2 :=
  win0_1.fill (grid0.coords t) (fun _ => Scalar.ofBits .fp8e5m2 0#8) (blk1 m c t)
/-- Window 2's block at point `t`, the part inside the array, -/
def blk2 (c : Dev nD) (t : Fin grid0.N) : (win0_2.xblock (grid0.coords t)).Idx → Elt F .f32 :=
  (win0_2.blk t).view.read (Elt F) (V m c main_arg1)
/-- and filled out with zeros past the array's end. -/
def tile2 (c : Dev nD) (t : Fin grid0.N) : S1x2x2048.Idx → Elt F .f32 :=
  win0_2.fill (grid0.coords t) (fun _ => Scalar.ofBits .f32 0#32) (blk2 m c t)
/-- Window 3's block at point `t`, the part inside the array, -/
def blk3 (c : Dev nD) (t : Fin grid0.N) : (win0_3.xblock (grid0.coords t)).Idx → Elt F .f32 :=
  (win0_3.blk t).view.read (Elt F) (V m c main_v0)
/-- and filled out with zeros past the array's end. -/
def tile3 (c : Dev nD) (t : Fin grid0.N) : S1x2048.Idx → Elt F .f32 :=
  win0_3.fill (grid0.coords t) (fun _ => Scalar.ofBits .f32 0#32) (blk3 m c t)
/-- Window 4's block at point `t`, the part inside the array, -/
def blk4 (c : Dev nD) (t : Fin grid0.N) : (win0_4.xblock (grid0.coords t)).Idx → Elt F .i8 :=
  (win0_4.blk t).view.read (Elt F) (V m c main_arg4)
/-- and filled out with zeros past the array's end. -/
def tile4 (c : Dev nD) (t : Fin grid0.N) : S2048x896.Idx → Elt F .i8 :=
  win0_4.fill (grid0.coords t) (fun _ => 0#8) (blk4 m c t)

/-- The scaled hidden rows. -/
abbrev hhC (c : Dev nD) : S256x896.Idx → Elt F .bf16 := hhOf (V m c main_arg2) (V m c main_arg3)
/-- The rows the walk adds. -/
abbrev tabC (c : Dev nD) : S256x896.Idx → Elt F .f32 := k0_pay7 (V m c main_arg7)

/-- The first result's sum after the first `n` tiles. -/
def accAt (c : Dev nD) : ℕ → S256x896.Idx → Elt F .f32
  | 0 => k0_pay6
  | n + 1 =>
    if h : n < 74 then
      let t : Fin grid0.N := ⟨n, by rw [N_0]; omega⟩
      k0_pay3 (tile2 m c t) (halfA (tile1 m c t)) (halfB (tile1 m c t)) (tile3 m c t) (accAt c n) (tile4 m c t)
    else
      let t : Fin grid0.N := ⟨74, by rw [N_0]; omega⟩
      k0_pay19 (cut3 (tile2 m c t)) (cutA (tile1 m c t)) (cutB (tile1 m c t)) (cut4 (tile3 m c t)) (accAt c n) (cut5 (tile4 m c t))

/-- The product a tile of the second result starts from. -/
def deAt (c : Dev nD) (t : Fin grid0.N) : S2048x896.Idx → Elt F .f32 :=
  if t.val < 74 then k0_pay2 (tile2 m c t) (halfA (tile1 m c t)) (halfB (tile1 m c t)) (hhC m c)
  else put9 (fun _ => Scalar.ofBits .f32 0#32) (k0_pay18 (cut3 (tile2 m c t)) (cutA (tile1 m c t)) (cutB (tile1 m c t)) (hhC m c))

/-- The tile of the second result that point `t` leaves. -/
def outAt (c : Dev nD) (t : Fin grid0.N) : S2048x896.Idx → Elt F .f32 :=
  fold (FloatOps.addf (F := F) (φ := .f32)) (idsOf m c) (tabC m c) t.val 256 (deAt m c t)

/-- The five scratch buffers before point `n`: anything before the first one; after it the scaled hidden rows,
    the rows the walk adds, the sum so far and the two tables of the linked lists. -/
def scr (c : Dev nD) : ℕ → sProp 𝕄
  | 0 => iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f))
  | n + 1 => iprop(owns (c : Thread nD τ) (Memref.whole cc0_scratch0) fullShare (hhC m c)
      ∗ owns (c : Thread nD τ) (Memref.whole cc0_scratch1) fullShare (tabC m c)
      ∗ owns (c : Thread nD τ) (Memref.whole cc0_scratch2) fullShare (accAt m c (n + 1))
      ∗ owns (c : Thread nD τ) (Memref.whole cc0_scratch3) fullShare (heads (idsOf m c) 256)
      ∗ owns (c : Thread nD τ) (Memref.whole cc0_scratch4) fullShare (links (idsOf m c)))

/-- The proof data of the pipeline on one core. -/
def dats (_ : Fin 1) (c : Dev nD) : Dat τ (Elt F) Unit ℕ (UR sig nD τ) ℕ (cfg0 (F := F)) c where
  A w := V m c (Pipeline.arrRef spec0 w)
  after w t := match w with
    | ⟨0, _⟩ => idsOf m c
    | ⟨1, _⟩ => tile1 m c t
    | ⟨2, _⟩ => tile2 m c t
    | ⟨3, _⟩ => tile3 m c t
    | ⟨4, _⟩ => tile4 m c t
    | ⟨5, _⟩ => V m c main_arg2
    | ⟨6, _⟩ => V m c main_arg3
    | ⟨7, _⟩ => V m c main_arg7
    | ⟨8, _⟩ => outAt m c t
    | ⟨9, _⟩ => k0_pay4 (accAt m c 75)
  Φ t := scr m c t.val
  q _ := fullShare
  owed _ := 0

/-! What the body finds. -/

theorem before_1 (c : Dev nD) (t : Fin grid0.N) (d) :
    (dats m 0 c).before (1 : Fin 10) t d = win0_1.fill (grid0.coords t) d (blk1 m c t) :=
  ((dats m 0 c).before_fetched (1 : Fin 10) t (fetch0_1 (F := F) t) d).trans rfl
theorem before_2 (c : Dev nD) (t : Fin grid0.N) (d) :
    (dats m 0 c).before (2 : Fin 10) t d = win0_2.fill (grid0.coords t) d (blk2 m c t) :=
  ((dats m 0 c).before_fetched (2 : Fin 10) t (fetch0_2 (F := F) t) d).trans rfl
theorem before_3 (c : Dev nD) (t : Fin grid0.N) (d) :
    (dats m 0 c).before (3 : Fin 10) t d = win0_3.fill (grid0.coords t) d (blk3 m c t) :=
  ((dats m 0 c).before_fetched (3 : Fin 10) t (fetch0_3 (F := F) t) d).trans rfl
theorem before_4 (c : Dev nD) (t : Fin grid0.N) (d) :
    (dats m 0 c).before (4 : Fin 10) t d = win0_4.fill (grid0.coords t) d (blk4 m c t) :=
  ((dats m 0 c).before_fetched (4 : Fin 10) t (fetch0_4 (F := F) t) d).trans rfl
/-- Window 0's block is the whole array. -/
theorem whole_0 (c : Dev nD) (t : Fin grid0.N) : (dats m 0 c).blockOf (0 : Fin 10) t = V m c main_arg6 := by
  have h : ∀ a, win0_0.index t a = 0 := fun a =>
    (by decide +kernel : ∀ (i : grid0.Coords) a, cc0_transform_0 i a = 0) (grid0.coords t) a
  funext y
  change V m c main_arg6 ((win0_0.rect t).emb y) = V m c main_arg6 y
  refine congrArg _ (funext fun a => Fin.ext ?_)
  rw [Rect.emb_apply]
  change win0_0.index t a * win0_0.size a + 1 * (y a).val = (y a).val
  rw [h a]; omega
theorem before_0 (c : Dev nD) (t : Fin grid0.N) (d) : (dats m 0 c).before (0 : Fin 10) t d = V m c main_arg6 := by
  refine ((dats m 0 c).before_in_eq_fetched (0 : Fin 10) rfl (fun _ => rfl) (fun _ _ _ => rfl)
    (fun t => (whole_0 m c t).symm) t d).trans ?_
  exact whole_0 m c t
/-- Window 5's block is the whole array. -/
theorem whole_5 (c : Dev nD) (t : Fin grid0.N) : (dats m 0 c).blockOf (5 : Fin 10) t = V m c main_arg2 := by
  have h : ∀ a, win0_5.index t a = 0 := fun a =>
    (by decide +kernel : ∀ (i : grid0.Coords) a, cc0_transform_5 i a = 0) (grid0.coords t) a
  funext y
  change V m c main_arg2 ((win0_5.rect t).emb y) = V m c main_arg2 y
  refine congrArg _ (funext fun a => Fin.ext ?_)
  rw [Rect.emb_apply]
  change win0_5.index t a * win0_5.size a + 1 * (y a).val = (y a).val
  rw [h a]; omega
theorem before_5 (c : Dev nD) (t : Fin grid0.N) (d) : (dats m 0 c).before (5 : Fin 10) t d = V m c main_arg2 := by
  refine ((dats m 0 c).before_in_eq_fetched (5 : Fin 10) rfl (fun _ => rfl) (fun _ _ _ => rfl)
    (fun t => (whole_5 m c t).symm) t d).trans ?_
  exact whole_5 m c t
/-- Window 6's block is the whole array. -/
theorem whole_6 (c : Dev nD) (t : Fin grid0.N) : (dats m 0 c).blockOf (6 : Fin 10) t = V m c main_arg3 := by
  have h : ∀ a, win0_6.index t a = 0 := fun a =>
    (by decide +kernel : ∀ (i : grid0.Coords) a, cc0_transform_6 i a = 0) (grid0.coords t) a
  funext y
  change V m c main_arg3 ((win0_6.rect t).emb y) = V m c main_arg3 y
  refine congrArg _ (funext fun a => Fin.ext ?_)
  rw [Rect.emb_apply]
  change win0_6.index t a * win0_6.size a + 1 * (y a).val = (y a).val
  rw [h a]; omega
theorem before_6 (c : Dev nD) (t : Fin grid0.N) (d) : (dats m 0 c).before (6 : Fin 10) t d = V m c main_arg3 := by
  refine ((dats m 0 c).before_in_eq_fetched (6 : Fin 10) rfl (fun _ => rfl) (fun _ _ _ => rfl)
    (fun t => (whole_6 m c t).symm) t d).trans ?_
  exact whole_6 m c t
/-- Window 7's block is the whole array. -/
theorem whole_7 (c : Dev nD) (t : Fin grid0.N) : (dats m 0 c).blockOf (7 : Fin 10) t = V m c main_arg7 := by
  have h : ∀ a, win0_7.index t a = 0 := fun a =>
    (by decide +kernel : ∀ (i : grid0.Coords) a, cc0_transform_7 i a = 0) (grid0.coords t) a
  funext y
  change V m c main_arg7 ((win0_7.rect t).emb y) = V m c main_arg7 y
  refine congrArg _ (funext fun a => Fin.ext ?_)
  rw [Rect.emb_apply]
  change win0_7.index t a * win0_7.size a + 1 * (y a).val = (y a).val
  rw [h a]; omega
theorem before_7 (c : Dev nD) (t : Fin grid0.N) (d) : (dats m 0 c).before (7 : Fin 10) t d = V m c main_arg7 := by
  refine ((dats m 0 c).before_in_eq_fetched (7 : Fin 10) rfl (fun _ => rfl) (fun _ _ _ => rfl)
    (fun t => (whole_7 m c t).symm) t d).trans ?_
  exact whole_7 m c t
theorem before_8 (c : Dev nD) (t : Fin grid0.N) (d) : (dats m 0 c).before (8 : Fin 10) t d = d := by
  have hf : ((cfg0 (F := F)).win 8).fetch t = false := rfl
  by_cases h0 : t.val = 0
  · unfold Dat.before
    exact (if_neg (fun h => Bool.false_ne_true (hf.symm.trans h))).trans (if_pos h0)
  · exact ((dats m 0 c).before_of_pos (8 : Fin 10) t h0 hf d).trans (if_pos (flush0_8 _))

end Cert.Proof.K

end
-- ==== Proof.K.Body.lean ====
/-
  The body's obligation at every point of the grid.
-/
module

public import proofs.«01_k».proof.Proof.K.Data

@[expose] public section

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Own Cert.Link

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Before the last point no block reaches past its array: what was in the buffer does not matter. -/

theorem xsize_1 : ∀ i : grid0.Coords, (i 0).val < 74 → ∀ a, win0_1.xsize i a = S1x256x2048.size a := by decide +kernel
theorem fill_1 {α : Type} (i : grid0.Coords) (h : (i 0).val < 74) (d d' : S1x256x2048.Idx → α) (g : (win0_1.xblock i).Idx → α) :
    win0_1.fill i d g = win0_1.fill i d' g := by
  funext j
  have hm : win0_1.moved i j = true := (win0_1.moved_iff i j).mpr fun a => by
    rw [xsize_1 i h a]; exact (j a).isLt
  unfold Window.fill; rw [dif_pos hm, dif_pos hm]
theorem xsize_2 : ∀ i : grid0.Coords, (i 0).val < 74 → ∀ a, win0_2.xsize i a = S1x2x2048.size a := by decide +kernel
theorem fill_2 {α : Type} (i : grid0.Coords) (h : (i 0).val < 74) (d d' : S1x2x2048.Idx → α) (g : (win0_2.xblock i).Idx → α) :
    win0_2.fill i d g = win0_2.fill i d' g := by
  funext j
  have hm : win0_2.moved i j = true := (win0_2.moved_iff i j).mpr fun a => by
    rw [xsize_2 i h a]; exact (j a).isLt
  unfold Window.fill; rw [dif_pos hm, dif_pos hm]
theorem xsize_3 : ∀ i : grid0.Coords, (i 0).val < 74 → ∀ a, win0_3.xsize i a = S1x2048.size a := by decide +kernel
theorem fill_3 {α : Type} (i : grid0.Coords) (h : (i 0).val < 74) (d d' : S1x2048.Idx → α) (g : (win0_3.xblock i).Idx → α) :
    win0_3.fill i d g = win0_3.fill i d' g := by
  funext j
  have hm : win0_3.moved i j = true := (win0_3.moved_iff i j).mpr fun a => by
    rw [xsize_3 i h a]; exact (j a).isLt
  unfold Window.fill; rw [dif_pos hm, dif_pos hm]
theorem xsize_4 : ∀ i : grid0.Coords, (i 0).val < 74 → ∀ a, win0_4.xsize i a = S2048x896.size a := by decide +kernel
theorem fill_4 {α : Type} (i : grid0.Coords) (h : (i 0).val < 74) (d d' : S2048x896.Idx → α) (g : (win0_4.xblock i).Idx → α) :
    win0_4.fill i d g = win0_4.fill i d' g := by
  funext j
  have hm : win0_4.moved i j = true := (win0_4.moved_iff i j).mpr fun a => by
    rw [xsize_4 i h a]; exact (j a).isLt
  unfold Window.fill; rw [dif_pos hm, dif_pos hm]

/-! At the last point the loads of the valid parts do not see what was in the buffer. -/

theorem fits_cutA : ∀ i : grid0.Coords, (i 0).val = 74 → ∀ a, (![0, 0, 0] : Fin _ → Nat) a + S1x128x384.size a ≤ win0_1.xsize i a := by decide +kernel
theorem fill_cutA (i : grid0.Coords) (h : (i 0).val = 74) (d d' : S1x256x2048.Idx → Elt F .fp8e5m2) (g : (win0_1.xblock i).Idx → Elt F .fp8e5m2) :
    cutA (F := F) (win0_1.fill i d g) = cutA (win0_1.fill i d' g) := by
  funext y
  have hm : win0_1.moved i ((Rect.unit (s := S1x256x2048) ![0, 0, 0] S1x128x384.size inb_S1x256x2048_S1x128x384_0_0_0).idx y) = true :=
    (win0_1.moved_iff i _).mpr fun a => by
      rw [Rect.idx_unit_val]
      exact Nat.lt_of_lt_of_le (Nat.add_lt_add_left (y a).isLt _) (fits_cutA i h a)
  show win0_1.fill i d g ((Rect.unit (s := S1x256x2048) ![0, 0, 0] S1x128x384.size inb_S1x256x2048_S1x128x384_0_0_0).idx y)
    = win0_1.fill i d' g ((Rect.unit (s := S1x256x2048) ![0, 0, 0] S1x128x384.size inb_S1x256x2048_S1x128x384_0_0_0).idx y)
  unfold Window.fill; rw [dif_pos hm, dif_pos hm]
theorem fits_cutB : ∀ i : grid0.Coords, (i 0).val = 74 → ∀ a, (![0, 128, 0] : Fin _ → Nat) a + S1x128x384.size a ≤ win0_1.xsize i a := by decide +kernel
theorem fill_cutB (i : grid0.Coords) (h : (i 0).val = 74) (d d' : S1x256x2048.Idx → Elt F .fp8e5m2) (g : (win0_1.xblock i).Idx → Elt F .fp8e5m2) :
    cutB (F := F) (win0_1.fill i d g) = cutB (win0_1.fill i d' g) := by
  funext y
  have hm : win0_1.moved i ((Rect.unit (s := S1x256x2048) ![0, 128, 0] S1x128x384.size inb_S1x256x2048_S1x128x384_0_128_0).idx y) = true :=
    (win0_1.moved_iff i _).mpr fun a => by
      rw [Rect.idx_unit_val]
      exact Nat.lt_of_lt_of_le (Nat.add_lt_add_left (y a).isLt _) (fits_cutB i h a)
  show win0_1.fill i d g ((Rect.unit (s := S1x256x2048) ![0, 128, 0] S1x128x384.size inb_S1x256x2048_S1x128x384_0_128_0).idx y)
    = win0_1.fill i d' g ((Rect.unit (s := S1x256x2048) ![0, 128, 0] S1x128x384.size inb_S1x256x2048_S1x128x384_0_128_0).idx y)
  unfold Window.fill; rw [dif_pos hm, dif_pos hm]
theorem fits_cut3 : ∀ i : grid0.Coords, (i 0).val = 74 → ∀ a, (![0, 0, 0] : Fin _ → Nat) a + S1x2x384.size a ≤ win0_2.xsize i a := by decide +kernel
theorem fill_cut3 (i : grid0.Coords) (h : (i 0).val = 74) (d d' : S1x2x2048.Idx → Elt F .f32) (g : (win0_2.xblock i).Idx → Elt F .f32) :
    cut3 (F := F) (win0_2.fill i d g) = cut3 (win0_2.fill i d' g) := by
  funext y
  have hm : win0_2.moved i ((Rect.unit (s := S1x2x2048) ![0, 0, 0] S1x2x384.size inb_S1x2x2048_S1x2x384_0_0_0).idx y) = true :=
    (win0_2.moved_iff i _).mpr fun a => by
      rw [Rect.idx_unit_val]
      exact Nat.lt_of_lt_of_le (Nat.add_lt_add_left (y a).isLt _) (fits_cut3 i h a)
  show win0_2.fill i d g ((Rect.unit (s := S1x2x2048) ![0, 0, 0] S1x2x384.size inb_S1x2x2048_S1x2x384_0_0_0).idx y)
    = win0_2.fill i d' g ((Rect.unit (s := S1x2x2048) ![0, 0, 0] S1x2x384.size inb_S1x2x2048_S1x2x384_0_0_0).idx y)
  unfold Window.fill; rw [dif_pos hm, dif_pos hm]
theorem fits_cut4 : ∀ i : grid0.Coords, (i 0).val = 74 → ∀ a, (![0, 0] : Fin _ → Nat) a + S1x384.size a ≤ win0_3.xsize i a := by decide +kernel
theorem fill_cut4 (i : grid0.Coords) (h : (i 0).val = 74) (d d' : S1x2048.Idx → Elt F .f32) (g : (win0_3.xblock i).Idx → Elt F .f32) :
    cut4 (F := F) (win0_3.fill i d g) = cut4 (win0_3.fill i d' g) := by
  funext y
  have hm : win0_3.moved i ((Rect.unit (s := S1x2048) ![0, 0] S1x384.size inb_S1x2048_S1x384_0_0).idx y) = true :=
    (win0_3.moved_iff i _).mpr fun a => by
      rw [Rect.idx_unit_val]
      exact Nat.lt_of_lt_of_le (Nat.add_lt_add_left (y a).isLt _) (fits_cut4 i h a)
  show win0_3.fill i d g ((Rect.unit (s := S1x2048) ![0, 0] S1x384.size inb_S1x2048_S1x384_0_0).idx y)
    = win0_3.fill i d' g ((Rect.unit (s := S1x2048) ![0, 0] S1x384.size inb_S1x2048_S1x384_0_0).idx y)
  unfold Window.fill; rw [dif_pos hm, dif_pos hm]
theorem fits_cut5 : ∀ i : grid0.Coords, (i 0).val = 74 → ∀ a, (![0, 0] : Fin _ → Nat) a + S384x896.size a ≤ win0_4.xsize i a := by decide +kernel
theorem fill_cut5 (i : grid0.Coords) (h : (i 0).val = 74) (d d' : S2048x896.Idx → Elt F .i8) (g : (win0_4.xblock i).Idx → Elt F .i8) :
    cut5 (F := F) (win0_4.fill i d g) = cut5 (win0_4.fill i d' g) := by
  funext y
  have hm : win0_4.moved i ((Rect.unit (s := S2048x896) ![0, 0] S384x896.size inb_S2048x896_S384x896_0_0).idx y) = true :=
    (win0_4.moved_iff i _).mpr fun a => by
      rw [Rect.idx_unit_val]
      exact Nat.lt_of_lt_of_le (Nat.add_lt_add_left (y a).isLt _) (fits_cut5 i h a)
  show win0_4.fill i d g ((Rect.unit (s := S2048x896) ![0, 0] S384x896.size inb_S2048x896_S384x896_0_0).idx y)
    = win0_4.fill i d' g ((Rect.unit (s := S2048x896) ![0, 0] S384x896.size inb_S2048x896_S384x896_0_0).idx y)
  unfold Window.fill; rw [dif_pos hm, dif_pos hm]

theorem cut8_put9 (i : grid0.Coords) (h : (i 0).val = 74) (X X' : S2048x896.Idx → Elt F .f32) (w : FVec F S384x896 .f32)
    (ids : S1x256.Idx → BitVec 32) (tab : S256x896.Idx → Elt F .f32) :
    win0_8.cut i (fold (FloatOps.addf (F := F) (φ := .f32)) ids tab 74 256 (put9 X w))
      = win0_8.cut i (fold (FloatOps.addf (F := F) (φ := .f32)) ids tab 74 256 (put9 X' w)) := by
  funext j
  apply fold_congr
  have h0 : (j 0).val < 384 := Nat.lt_of_lt_of_le (j 0).isLt
    ((by decide +kernel : ∀ i : grid0.Coords, (i 0).val = 74 → win0_8.xsize i 0 ≤ 384) i h)
  have h1 : (j 1).val < 896 := Nat.lt_of_lt_of_le (j 1).isLt
    ((by decide +kernel : ∀ i : grid0.Coords, win0_8.xsize i 1 ≤ 896) i)
  have hy : ∀ a : Fin 2, (win0_8.xinj i j a).val
      = (![0, 0] : Fin 2 → Nat) a + ((ix2 (⟨(j 0).val, h0⟩ : Fin 384) (⟨(j 1).val, h1⟩ : Fin 896) : S384x896.Idx) a).val := fun a => by
    match a with
    | ⟨0, _⟩ => exact (Nat.zero_add _).symm
    | ⟨1, _⟩ => exact (Nat.zero_add _).symm
  exact (overlay_unit_of_mem _ X w _ _ hy).trans (overlay_unit_of_mem _ X' w _ _ hy).symm

variable (m : (ℓ : Loc nD τ sig) → Buf (Elt F) ℓ) (ρ : Dev nD → PrngReg)

theorem coords_val (t : Fin grid0.N) : (grid0.coords t 0).val = t.val :=
  (by decide +kernel : ∀ t : Fin grid0.N, (grid0.coords t 0).val = t.val) t

theorem scr_zero (c : Dev nD) : scr m c 0
    = iprop((∃ f : Buf (Elt F) ((c : Thread nD τ).loc cc0_scratch0), owns (c : Thread nD τ) (Memref.whole cc0_scratch0) fullShare f)
      ∗ (∃ f : Buf (Elt F) ((c : Thread nD τ).loc cc0_scratch1), owns (c : Thread nD τ) (Memref.whole cc0_scratch1) fullShare f)
      ∗ (∃ f : Buf (Elt F) ((c : Thread nD τ).loc cc0_scratch2), owns (c : Thread nD τ) (Memref.whole cc0_scratch2) fullShare f)
      ∗ (∃ f : Buf (Elt F) ((c : Thread nD τ).loc cc0_scratch3), owns (c : Thread nD τ) (Memref.whole cc0_scratch3) fullShare f)
      ∗ (∃ f : Buf (Elt F) ((c : Thread nD τ).loc cc0_scratch4), owns (c : Thread nD τ) (Memref.whole cc0_scratch4) fullShare f)) := by
  unfold scr; simp only [owns_whole]

theorem scr_succ (c : Dev nD) (n : ℕ) : scr m c (n + 1)
    = iprop(owns (c : Thread nD τ) (Memref.whole cc0_scratch0) fullShare (hhC m c)
      ∗ owns (c : Thread nD τ) (Memref.whole cc0_scratch1) fullShare (tabC m c)
      ∗ owns (c : Thread nD τ) (Memref.whole cc0_scratch2) fullShare (accAt m c (n + 1))
      ∗ owns (c : Thread nD τ) (Memref.whole cc0_scratch3) fullShare (heads (idsOf m c) 256)
      ∗ owns (c : Thread nD τ) (Memref.whole cc0_scratch4) fullShare (links (idsOf m c))) := rfl

theorem scr_pos (c : Dev nD) (n : ℕ) (h : n ≠ 0) : scr m c n
    = iprop(owns (c : Thread nD τ) (Memref.whole cc0_scratch0) fullShare (hhC m c)
      ∗ owns (c : Thread nD τ) (Memref.whole cc0_scratch1) fullShare (tabC m c)
      ∗ owns (c : Thread nD τ) (Memref.whole cc0_scratch2) fullShare (accAt m c n)
      ∗ owns (c : Thread nD τ) (Memref.whole cc0_scratch3) fullShare (heads (idsOf m c) 256)
      ∗ owns (c : Thread nD τ) (Memref.whole cc0_scratch4) fullShare (links (idsOf m c))) := by
  obtain ⟨k, rfl⟩ := Nat.exists_eq_succ_of_ne_zero h
  exact scr_succ m c k

theorem accAt_mid (c : Dev nD) (t : Fin grid0.N) (h : t.val < 74) :
    accAt m c (t.val + 1) = k0_pay3 (tile2 m c t) (halfA (tile1 m c t)) (halfB (tile1 m c t)) (tile3 m c t) (accAt m c t.val) (tile4 m c t) := by
  rw [accAt, dif_pos h]

theorem accAt_last (c : Dev nD) (t : Fin grid0.N) (h : t.val = 74) :
    accAt m c (t.val + 1) = k0_pay19 (cut3 (tile2 m c t)) (cutA (tile1 m c t)) (cutB (tile1 m c t)) (cut4 (tile3 m c t)) (accAt m c t.val) (cut5 (tile4 m c t)) := by
  have e : (⟨74, by rw [N_0]; omega⟩ : Fin grid0.N) = t := Fin.ext h.symm
  rw [accAt, dif_neg (by omega), e]

theorem outAt_mid (c : Dev nD) (t : Fin grid0.N) (h : t.val < 74) :
    outAt m c t = fold (FloatOps.addf (F := F) (φ := .f32)) (idsOf m c) (tabC m c) (grid0.coords t 0).val 256
      (k0_pay2 (tile2 m c t) (halfA (tile1 m c t)) (halfB (tile1 m c t)) (hhC m c)) := by
  unfold outAt deAt; rw [if_pos h, coords_val]

theorem idle9 (t : Fin grid0.N) (h : t.val < 74) : idle0 9 (grid0.coords t) = true :=
  (by decide +kernel : ∀ t : Fin grid0.N, t.val < 74 → idle0 9 (grid0.coords t) = true) t h
theorem live9 (t : Fin grid0.N) (h : t.val = 74) : idle0 9 (grid0.coords t) = false :=
  (by decide +kernel : ∀ t : Fin grid0.N, t.val = 74 → idle0 9 (grid0.coords t) = false) t h
theorem flush9 (t : Fin grid0.N) (h : t.val < 74) : win0_9.flush t = false := by
  rw [← Bool.not_eq_true]
  intro hf
  have := ((Pipeline.Window.flush_const win0_9 rfl (fun _ _ => rfl) (n := 75) (by decide) rfl t : win0_9.flush t = true ↔ t.val % 75 = 74)).mp hf
  omega

theorem leaves9_idle (c : Dev nD) (t : Fin grid0.N) (h : t.val < 74) : (dats m 0 c).leaves (9 : Fin 10) t
    = iprop(∃ d, owns (c : Thread nD τ) (((cfg0 (F := F)).win 9).stage (cfg0.slots t 9)) fullShare ((dats m 0 c).before (9 : Fin 10) t d)) := by
  unfold Dat.leaves
  split
  · split
    · rfl
    · rename_i hc; exact absurd (hc.symm.trans (flush9 t h)) (by decide)
  · rename_i hc; exact absurd (hc.symm.trans (idle9 t h)) (by decide)
theorem leaves9_live (c : Dev nD) (t : Fin grid0.N) (h : t.val = 74) : (dats m 0 c).leaves (9 : Fin 10) t
    = owns (c : Thread nD τ) (((cfg0 (F := F)).win 9).stage (cfg0.slots t 9)) fullShare (k0_pay4 (accAt m c 75)) := by
  unfold Dat.leaves
  split
  · rename_i hc; exact absurd (hc.symm.trans (live9 t h)) (by decide)
  · rfl

/-- The obligation at one point. -/
abbrev Obl (c : Dev nD) (t : Fin grid0.N) : Prop :=
    iprop((dats m 0 c).Φ t.castSucc ∗ (dats m 0 c).owesAt () t.castSucc
        ∗ bigSep Finset.univ fun w : Fin 10 => iprop(∃ d, owns (c : Thread nD τ) (((cfg0 (F := F)).win w).stage (cfg0.slots t w)) fullShare ((dats m 0 c).before w t d)))
      ⊢ wp frame (wpE (defs₀ (F := F)) 𝒱₀ (c : Thread nD τ) none) Set.univ (bodyAt0 t) fun _ =>
          iprop((dats m 0 c).Φ t.succ ∗ (dats m 0 c).owesAt () t.succ
            ∗ bigSep Finset.univ fun w : Fin 10 => (dats m 0 c).leaves w t)

/-- The obligation at the first point. -/
theorem obl_first (c : Dev nD) (hids : ∀ t, row (idsOf m c) t < 151936) (t : Fin grid0.N) (h : t.val = 0) : Obl m c t := by
  unfold Obl
  rw [bigSep_W0, bigSep_W0]
  simp only
  rw [show (dats m 0 c).Φ t.castSucc = scr m c t.val from rfl, show (dats m 0 c).Φ t.succ = scr m c (t.val + 1) from rfl,
    show (dats m 0 c).owesAt () t.succ = (dats m 0 c).owesAt () t.castSucc from rfl]
  have hi := coords_val t
  have hlt : (grid0.coords t 0).val < 74 := by omega
  rw [h, scr_zero, scr_succ]
  iintro ⟨⟨⟨%f1, H11⟩, ⟨%f2, H12⟩, ⟨%f3, H13⟩, ⟨%f4, H14⟩, ⟨%f5, H15⟩⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_0 m c t d0]
  rw [before_1 m c t d1]
  rw [before_2 m c t d2]
  rw [before_3 m c t d3]
  rw [before_4 m c t d4]
  rw [before_5 m c t d5]
  rw [before_6 m c t d6]
  rw [before_7 m c t d7]
  rw [before_8 m c t d8]
  rw [show win0_1.fill (grid0.coords t) d1 (blk1 m c t) = tile1 m c t from fill_1 (grid0.coords t) hlt _ _ _]
  rw [show win0_2.fill (grid0.coords t) d2 (blk2 m c t) = tile2 m c t from fill_2 (grid0.coords t) hlt _ _ _]
  rw [show win0_3.fill (grid0.coords t) d3 (blk3 m c t) = tile3 m c t from fill_3 (grid0.coords t) hlt _ _ _]
  rw [show win0_4.fill (grid0.coords t) d4 (blk4 m c t) = tile4 m c t from fill_4 (grid0.coords t) hlt _ _ _]
  iapply (body_first c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (idsOf m c) Set.univ (by omega) hids (tile1 m c t) (tile2 m c t) (tile3 m c t) (tile4 m c t) d8 (V m c main_arg2) (V m c main_arg3) (V m c main_arg7) f1 f2 f3 f4 f5)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [H11]; · iexact H11
  isplitl [H12]; · iexact H12
  isplitl [H13]; · iexact H13
  isplitl [H14]; · iexact H14
  isplitl [H15]; · iexact H15
  iintro ⟨W0, W1, W2, W3, W4, W5, W6, W7, W8, H11, H12, H13, H14, H15⟩
  rw [show k0_pay3 (tile2 m c t) (halfA (tile1 m c t)) (halfB (tile1 m c t)) (tile3 m c t) (k0_pay6 (F := F)) (tile4 m c t) = accAt m c (0 + 1) from by
    rw [show accAt m c (0 + 1) = accAt m c (t.val + 1) from by rw [h], accAt_mid m c t (by omega), h]; rfl]
  rw [← outAt_mid m c t (by omega)]
  isplitl [H11 H12 H13 H14 H15]
  · isplitl [H11]; · iexact H11
    isplitl [H12]; · iexact H12
    isplitl [H13]; · iexact H13
    isplitl [H14]; · iexact H14
    iexact H15
  isplitl [Ho]; · iexact Ho
  isplitl [W0]; · iexact W0
  isplitl [W1]
  · iexists d1
    change _ ⊢ owns (c : Thread nD τ) (win0_1.stage (cfg0.slots t 1)) fullShare (win0_1.fill (grid0.coords t) d1 (win0_1.cut (grid0.coords t) (tile1 m c t)))
    rw [show win0_1.cut (grid0.coords t) (tile1 m c t) = blk1 m c t from win0_1.cut_fill _ _ _]
    rw [show win0_1.fill (grid0.coords t) d1 (blk1 m c t) = tile1 m c t from fill_1 (grid0.coords t) hlt _ _ _]
    try iexact W1
  isplitl [W2]
  · iexists d2
    change _ ⊢ owns (c : Thread nD τ) (win0_2.stage (cfg0.slots t 2)) fullShare (win0_2.fill (grid0.coords t) d2 (win0_2.cut (grid0.coords t) (tile2 m c t)))
    rw [show win0_2.cut (grid0.coords t) (tile2 m c t) = blk2 m c t from win0_2.cut_fill _ _ _]
    rw [show win0_2.fill (grid0.coords t) d2 (blk2 m c t) = tile2 m c t from fill_2 (grid0.coords t) hlt _ _ _]
    try iexact W2
  isplitl [W3]
  · iexists d3
    change _ ⊢ owns (c : Thread nD τ) (win0_3.stage (cfg0.slots t 3)) fullShare (win0_3.fill (grid0.coords t) d3 (win0_3.cut (grid0.coords t) (tile3 m c t)))
    rw [show win0_3.cut (grid0.coords t) (tile3 m c t) = blk3 m c t from win0_3.cut_fill _ _ _]
    rw [show win0_3.fill (grid0.coords t) d3 (blk3 m c t) = tile3 m c t from fill_3 (grid0.coords t) hlt _ _ _]
    try iexact W3
  isplitl [W4]
  · iexists d4
    change _ ⊢ owns (c : Thread nD τ) (win0_4.stage (cfg0.slots t 4)) fullShare (win0_4.fill (grid0.coords t) d4 (win0_4.cut (grid0.coords t) (tile4 m c t)))
    rw [show win0_4.cut (grid0.coords t) (tile4 m c t) = blk4 m c t from win0_4.cut_fill _ _ _]
    rw [show win0_4.fill (grid0.coords t) d4 (blk4 m c t) = tile4 m c t from fill_4 (grid0.coords t) hlt _ _ _]
    try iexact W4
  isplitl [W5]; · iexact W5
  isplitl [W6]; · iexact W6
  isplitl [W7]; · iexact W7
  isplitl [W8]
  · iexists (outAt m c t)
    change _ ⊢ owns (c : Thread nD τ) (win0_8.stage (cfg0.slots t 8)) fullShare (win0_8.fill (grid0.coords t) (outAt m c t) (win0_8.cut (grid0.coords t) (outAt m c t)))
    rw [win0_8.fill_cut]; try iexact W8
  · rw [leaves9_idle m c t (by omega)]
    iexists d9; iexact W9

/-- The obligation at a point between the first and the last. -/
theorem obl_mid (c : Dev nD) (hids : ∀ t, row (idsOf m c) t < 151936) (t : Fin grid0.N) (h0 : t.val ≠ 0) (h : t.val < 74) : Obl m c t := by
  unfold Obl
  rw [bigSep_W0, bigSep_W0]
  simp only
  rw [show (dats m 0 c).Φ t.castSucc = scr m c t.val from rfl, show (dats m 0 c).Φ t.succ = scr m c (t.val + 1) from rfl,
    show (dats m 0 c).owesAt () t.succ = (dats m 0 c).owesAt () t.castSucc from rfl]
  have hi := coords_val t
  have hlt : (grid0.coords t 0).val < 74 := by omega
  rw [scr_pos m c t.val (by omega), scr_succ]
  iintro ⟨⟨H11, H12, H13, H14, H15⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_0 m c t d0]
  rw [before_1 m c t d1]
  rw [before_2 m c t d2]
  rw [before_3 m c t d3]
  rw [before_4 m c t d4]
  rw [before_5 m c t d5]
  rw [before_6 m c t d6]
  rw [before_7 m c t d7]
  rw [before_8 m c t d8]
  rw [show win0_1.fill (grid0.coords t) d1 (blk1 m c t) = tile1 m c t from fill_1 (grid0.coords t) hlt _ _ _]
  rw [show win0_2.fill (grid0.coords t) d2 (blk2 m c t) = tile2 m c t from fill_2 (grid0.coords t) hlt _ _ _]
  rw [show win0_3.fill (grid0.coords t) d3 (blk3 m c t) = tile3 m c t from fill_3 (grid0.coords t) hlt _ _ _]
  rw [show win0_4.fill (grid0.coords t) d4 (blk4 m c t) = tile4 m c t from fill_4 (grid0.coords t) hlt _ _ _]
  iapply (body_mid c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (idsOf m c) Set.univ (by omega) hlt (tile1 m c t) (tile2 m c t) (tile3 m c t) (tile4 m c t) d8 (hhC m c) (tabC m c) (accAt m c t.val))
  isplitl [W0]; · iexact W0
  isplitl [W1]; · iexact W1
  isplitl [W2]; · iexact W2
  isplitl [W3]; · iexact W3
  isplitl [W4]; · iexact W4
  isplitl [W8]; · iexact W8
  isplitl [H11]; · iexact H11
  isplitl [H12]; · iexact H12
  isplitl [H13]; · iexact H13
  isplitl [H14]; · iexact H14
  isplitl [H15]; · iexact H15
  iintro ⟨W0, W1, W2, W3, W4, W8, H11, H12, H13, H14, H15⟩
  rw [← accAt_mid m c t h]
  rw [← outAt_mid m c t (by omega)]
  isplitl [H11 H12 H13 H14 H15]
  · isplitl [H11]; · iexact H11
    isplitl [H12]; · iexact H12
    isplitl [H13]; · iexact H13
    isplitl [H14]; · iexact H14
    iexact H15
  isplitl [Ho]; · iexact Ho
  isplitl [W0]; · iexact W0
  isplitl [W1]
  · iexists d1
    change _ ⊢ owns (c : Thread nD τ) (win0_1.stage (cfg0.slots t 1)) fullShare (win0_1.fill (grid0.coords t) d1 (win0_1.cut (grid0.coords t) (tile1 m c t)))
    rw [show win0_1.cut (grid0.coords t) (tile1 m c t) = blk1 m c t from win0_1.cut_fill _ _ _]
    rw [show win0_1.fill (grid0.coords t) d1 (blk1 m c t) = tile1 m c t from fill_1 (grid0.coords t) hlt _ _ _]
    try iexact W1
  isplitl [W2]
  · iexists d2
    change _ ⊢ owns (c : Thread nD τ) (win0_2.stage (cfg0.slots t 2)) fullShare (win0_2.fill (grid0.coords t) d2 (win0_2.cut (grid0.coords t) (tile2 m c t)))
    rw [show win0_2.cut (grid0.coords t) (tile2 m c t) = blk2 m c t from win0_2.cut_fill _ _ _]
    rw [show win0_2.fill (grid0.coords t) d2 (blk2 m c t) = tile2 m c t from fill_2 (grid0.coords t) hlt _ _ _]
    try iexact W2
  isplitl [W3]
  · iexists d3
    change _ ⊢ owns (c : Thread nD τ) (win0_3.stage (cfg0.slots t 3)) fullShare (win0_3.fill (grid0.coords t) d3 (win0_3.cut (grid0.coords t) (tile3 m c t)))
    rw [show win0_3.cut (grid0.coords t) (tile3 m c t) = blk3 m c t from win0_3.cut_fill _ _ _]
    rw [show win0_3.fill (grid0.coords t) d3 (blk3 m c t) = tile3 m c t from fill_3 (grid0.coords t) hlt _ _ _]
    try iexact W3
  isplitl [W4]
  · iexists d4
    change _ ⊢ owns (c : Thread nD τ) (win0_4.stage (cfg0.slots t 4)) fullShare (win0_4.fill (grid0.coords t) d4 (win0_4.cut (grid0.coords t) (tile4 m c t)))
    rw [show win0_4.cut (grid0.coords t) (tile4 m c t) = blk4 m c t from win0_4.cut_fill _ _ _]
    rw [show win0_4.fill (grid0.coords t) d4 (blk4 m c t) = tile4 m c t from fill_4 (grid0.coords t) hlt _ _ _]
    try iexact W4
  isplitl [W5]; · iexact W5
  isplitl [W6]; · iexact W6
  isplitl [W7]; · iexact W7
  isplitl [W8]
  · iexists (outAt m c t)
    change _ ⊢ owns (c : Thread nD τ) (win0_8.stage (cfg0.slots t 8)) fullShare (win0_8.fill (grid0.coords t) (outAt m c t) (win0_8.cut (grid0.coords t) (outAt m c t)))
    rw [win0_8.fill_cut]; try iexact W8
  · rw [leaves9_idle m c t (by omega)]
    iexists d9; iexact W9

/-- The obligation at the last point. -/
theorem obl_last (c : Dev nD) (hids : ∀ t, row (idsOf m c) t < 151936) (t : Fin grid0.N) (h : t.val = 74) : Obl m c t := by
  unfold Obl
  rw [bigSep_W0, bigSep_W0]
  simp only
  rw [show (dats m 0 c).Φ t.castSucc = scr m c t.val from rfl, show (dats m 0 c).Φ t.succ = scr m c (t.val + 1) from rfl,
    show (dats m 0 c).owesAt () t.succ = (dats m 0 c).owesAt () t.castSucc from rfl]
  have hi := coords_val t
  have hl : (grid0.coords t 0).val = 74 := by omega
  rw [scr_pos m c t.val (by omega), scr_succ]
  iintro ⟨⟨H11, H12, H13, H14, H15⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_0 m c t d0]
  rw [before_1 m c t d1]
  rw [before_2 m c t d2]
  rw [before_3 m c t d3]
  rw [before_4 m c t d4]
  rw [before_5 m c t d5]
  rw [before_6 m c t d6]
  rw [before_7 m c t d7]
  rw [before_8 m c t d8]
  iapply (body_last c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (idsOf m c) Set.univ hl (win0_1.fill (grid0.coords t) d1 (blk1 m c t)) (win0_2.fill (grid0.coords t) d2 (blk2 m c t)) (win0_3.fill (grid0.coords t) d3 (blk3 m c t)) (win0_4.fill (grid0.coords t) d4 (blk4 m c t)) d8 ((dats m 0 c).before (9 : Fin 10) t d9) (hhC m c) (tabC m c) (accAt m c t.val))
  isplitl [W0]; · iexact W0
  isplitl [W1]; · iexact W1
  isplitl [W2]; · iexact W2
  isplitl [W3]; · iexact W3
  isplitl [W4]; · iexact W4
  isplitl [W8]; · iexact W8
  isplitl [W9]; · iexact W9
  isplitl [H11]; · iexact H11
  isplitl [H12]; · iexact H12
  isplitl [H13]; · iexact H13
  isplitl [H14]; · iexact H14
  isplitl [H15]; · iexact H15
  iintro ⟨W0, W1, W2, W3, W4, W8, W9, H11, H12, H13, H14, H15⟩
  rw [show cutA (win0_1.fill (grid0.coords t) d1 (blk1 m c t)) = cutA (tile1 m c t) from fill_cutA (grid0.coords t) hl _ _ _]
  rw [show cutB (win0_1.fill (grid0.coords t) d1 (blk1 m c t)) = cutB (tile1 m c t) from fill_cutB (grid0.coords t) hl _ _ _]
  rw [show cut3 (win0_2.fill (grid0.coords t) d2 (blk2 m c t)) = cut3 (tile2 m c t) from fill_cut3 (grid0.coords t) hl _ _ _]
  rw [show cut4 (win0_3.fill (grid0.coords t) d3 (blk3 m c t)) = cut4 (tile3 m c t) from fill_cut4 (grid0.coords t) hl _ _ _]
  rw [show cut5 (win0_4.fill (grid0.coords t) d4 (blk4 m c t)) = cut5 (tile4 m c t) from fill_cut5 (grid0.coords t) hl _ _ _]
  rw [← accAt_last m c t h]
  isplitl [H11 H12 H13 H14 H15]
  · isplitl [H11]; · iexact H11
    isplitl [H12]; · iexact H12
    isplitl [H13]; · iexact H13
    isplitl [H14]; · iexact H14
    iexact H15
  isplitl [Ho]; · iexact Ho
  isplitl [W0]; · iexact W0
  isplitl [W1]
  · iexists d1
    change _ ⊢ owns (c : Thread nD τ) (win0_1.stage (cfg0.slots t 1)) fullShare (win0_1.fill (grid0.coords t) d1 (win0_1.cut (grid0.coords t) (tile1 m c t)))
    rw [show win0_1.cut (grid0.coords t) (tile1 m c t) = blk1 m c t from win0_1.cut_fill _ _ _]
    try iexact W1
  isplitl [W2]
  · iexists d2
    change _ ⊢ owns (c : Thread nD τ) (win0_2.stage (cfg0.slots t 2)) fullShare (win0_2.fill (grid0.coords t) d2 (win0_2.cut (grid0.coords t) (tile2 m c t)))
    rw [show win0_2.cut (grid0.coords t) (tile2 m c t) = blk2 m c t from win0_2.cut_fill _ _ _]
    try iexact W2
  isplitl [W3]
  · iexists d3
    change _ ⊢ owns (c : Thread nD τ) (win0_3.stage (cfg0.slots t 3)) fullShare (win0_3.fill (grid0.coords t) d3 (win0_3.cut (grid0.coords t) (tile3 m c t)))
    rw [show win0_3.cut (grid0.coords t) (tile3 m c t) = blk3 m c t from win0_3.cut_fill _ _ _]
    try iexact W3
  isplitl [W4]
  · iexists d4
    change _ ⊢ owns (c : Thread nD τ) (win0_4.stage (cfg0.slots t 4)) fullShare (win0_4.fill (grid0.coords t) d4 (win0_4.cut (grid0.coords t) (tile4 m c t)))
    rw [show win0_4.cut (grid0.coords t) (tile4 m c t) = blk4 m c t from win0_4.cut_fill _ _ _]
    try iexact W4
  isplitl [W5]; · iexact W5
  isplitl [W6]; · iexact W6
  isplitl [W7]; · iexact W7
  isplitl [W8]
  · iexists (fold (FloatOps.addf (F := F) (φ := .f32)) (idsOf m c) (tabC m c) (grid0.coords t 0).val 256 (put9 d8 (k0_pay18 (cut3 (tile2 m c t)) (cutA (tile1 m c t)) (cutB (tile1 m c t)) (hhC m c))))
    change _ ⊢ owns (c : Thread nD τ) (win0_8.stage (cfg0.slots t 8)) fullShare (win0_8.fill (grid0.coords t) _ (win0_8.cut (grid0.coords t) (outAt m c t)))
    rw [win0_8.fill_congr_cut (grid0.coords t) (Y := outAt m c t) (by
      unfold outAt deAt; rw [if_neg (by omega), hi, h]; exact cut8_put9 (grid0.coords t) hl _ _ _ _ _)]
    try iexact W8
  · rw [leaves9_live m c t h, show t.val + 1 = 75 from by omega]
    iexact W9

/-- The body's obligation. -/
theorem body_obligation (c : Dev nD) (hids : ∀ t, row (idsOf m c) t < 151936) :
    BodyObligationLoose (dats m 0 c) (defs₀ (F := F)) 𝒱₀ () Set.univ := fun t => by
  have hN : t.val < 75 := lt_of_lt_of_eq t.isLt N_0
  have h : Obl m c t := by
    by_cases h0 : t.val = 0
    · exact obl_first m c hids t h0
    · by_cases h : t.val < 74
      · exact obl_mid m c hids t h0 h
      · exact obl_last m c hids t (by omega)
  exact h

end Cert.Proof.K

end
-- ==== Proof.Pre.lean ====
/-
  The precondition read as a fact about numbers: each of the 256 row numbers is below 151936.
-/
module

public import proofs.«01_k».proof.Pre_ids_name_rows
public import proofs.«01_k».proof.Proof.Link

@[expose] public section

noncomputable section

namespace Cert.Proof

open Idealize.ShloMosaic Idealize.ShloMosaic.ValueIdx
open Cert.Link

/-- The one shape relation the predicate's operations state. -/
theorem preFacts : Cert.Pre_ids_name_rows.Facts := ⟨by decide⟩

theorem ofBool_and (a b : Bool) : IntOp.andi (BitVec.ofBool a) (BitVec.ofBool b) = BitVec.ofBool (a && b) := by
  cases a <;> cases b <;> decide
theorem ofBool_one (b : Bool) : BitVec.ofBool b = 1#1 ↔ b = true := by cases b <;> decide

/-- If the predicate is all ones, every row number names a row. -/
theorem row_lt_of_pre {F : FTy → Type} [FloatOps F] [Cert.Pre_ids_name_rows.Facts]
    (a0 : FVec F Cert.Pre_ids_name_rows.S1x256x151936 .fp8e5m2) (a1 : FVec F Cert.Pre_ids_name_rows.S1x2x151936 .f32)
    (a2 : FVec F Cert.Pre_ids_name_rows.S1x256x896 .fp8e4m3) (a3 : FVec F Cert.Pre_ids_name_rows.S1x256 .f32)
    (a4 : IVec Cert.Pre_ids_name_rows.S151936x896 8) (a5 : FVec F Cert.Pre_ids_name_rows.S151936 .f32)
    (ids : IVec Cert.Pre_ids_name_rows.S1x256 32) (a7 : FVec F Cert.Pre_ids_name_rows.S1x256x896 .bf16)
    (h : Cert.Pre_ids_name_rows.fn a0 a1 a2 a3 a4 a5 ids a7 = fun _ => 1#1) (t : ℕ) : row ids t < 151936 := by
  unfold row
  split
  · rename_i ht
    have e := congrFun h (ix2 0 ⟨t, ht⟩)
    simp only [Cert.Pre_ids_name_rows.fn, andi, cmpi, broadcastInDim, constantI, IntOp.cmpi, ofBool_and, ofBool_one, Bool.and_eq_true] at e
    obtain ⟨hge, hlt⟩ := e
    simp only [BitVec.sle, BitVec.slt, decide_eq_true_eq, BitVec.toInt, BitVec.toNat_ofNat] at hge hlt
    omega
  · omega

end Cert.Proof

end
-- ==== Proof.K.Run.lean ====
/-
  The run: from any memory whose row numbers are in range, every execution ends with the arguments unchanged,
  every counter at zero and the two results at what the grid's write-backs leave.
-/
module

public import proofs.«01_k».proof.Proof.K.Body
public import proofs.«01_k».proof.Proof.Pre
public import proofs.«01_k».proof.Defs
public import Idealize.ShloMosaic.Lib.Pipeline.KitQuiescent

@[expose] public section

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Own Cert.Link

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁

/-- Every staging cell at round 0, a token for every transfer. -/
def u₀ : UR sig nD τ := initOf (Pipeline.cells (cfgs (F := F)) launch0.cellOf_inj) (Pipeline.launchToks (cfgs (F := F)) launch0.cellOf_inj)

/-- An array after the run. -/
def finalA (c : Dev nD) (w : Fin 10) : Buf (Elt F) (((cfg0 (F := F)).win w).arr.view.loc (c : Thread nD τ)) :=
  (dats m 0 c).arrAt w (cfg0 (F := F)).N

theorem V_arg (c : Dev nD) (b : Ref sig .tc) (h : b ≠ main_v0) : V m c b = m ((c : Thread nD τ).loc b) :=
  StableHlo.after_of_forall_not_mem _ _ (fun op hop hb => by
    rw [List.mem_singleton] at hop; subst hop
    rw [StableHlo.reshape_writes, Finset.mem_singleton] at hb
    exact h (Proc.devRef_injective _ hb))

theorem hostOps0_fresh : (hostOps0 : List (HloOp τ sig (Elt F))).Forall fun op => op.fresh = ∅ := by
  simp only [List.Forall]; repeat' constructor

set_option backward.isDefEq.respectTransparency.types false in
/-- The run of the whole program. -/
theorem run_main (hids : ∀ c t, row (idsOf m c) t < 151936) :
    θ_run defs (onTc (τ := τ) (main (F := F))) ⟨m, fun _ => 0, ρ⟩ (fun r =>
      (∀ (c : Dev nD), (∀ w : Fin 10, r.2.mem (((cfg0 (F := F)).win w).arr.view.loc (c : Thread nD τ)) = finalA m c w)
        ∧ r.2.mem ((c : Thread nD τ).loc main_arg5) = V m c main_arg5) ∧ r.2.sem = fun _ => 0) :=
  Pipeline.θ_run_region_noSem_kit_quiescent cfgs (dats m) () (0 : Fin 1) launch0 EP defs₀ 𝒱₀ m ρ main
    (hbody := fun c => body_obligation m c (hids c))
    (hshare := fun c => (dats m 0 c).share_full fun _ => rfl) (howed := fun _ _ => rfl)
    (u₀ := u₀ (F := F)) (hu₀ := BI.Entails.refl _)
    (V := fun c b => V m c b)
    (hmain := Pipeline.hmain_prefix cfgs (0 : Fin 1) defs₀ 𝒱₀ m main hostOps0 hostOps0_sub hostOps0_fresh main_chain)
    (hA := fun _ _ => rfl)
    (X := fun _ => iprop(emp)) (Y := fun _ => iprop(emp)) (Z := fun c => iprop((((c : Thread nD τ).loc main_arg5) ↦{fullShare} V m c main_arg5)))
    (hX := fun c => by rw [unscopedRest0_eq]; iintro H; isplitr; · iempintro
                       iexact H)
    (hin := fun c => by
                       rw [scopedRest0_eq, show (dats m 0 c).Φ 0 = scr m c 0 from rfl, scr_zero]
                       simp only [owns_whole]
                       iintro ⟨-, H⟩; iexact H)
    (hout := fun c => by
      rw [scopedRest0_eq, show (dats m 0 c).Φ (Fin.last (cfg0 (F := F)).N) = scr m c (74 + 1) from rfl, scr_succ]
      simp only [owns_whole]
      iintro ⟨H1, H2, H3, H4, H5⟩
      isplitr; · iempintro
      isplitl [H1]; · iexists _; iexact H1
      isplitl [H2]; · iexists _; iexact H2
      isplitl [H3]; · iexists _; iexact H3
      isplitl [H4]; · iexists _; iexact H4
      iexists _; iexact H5)
    (QY := fun c s => s.mem ((c : Thread nD τ).loc main_arg5) = V m c main_arg5)
    (hY := fun c s' => by
      iintro ⟨-, HZ, HSI⟩
      icombine HSI HZ gives %h0
      imodintro
      isplitr; · ipureintro; exact Buf.eq_of_forall_mem_univ h0
      iexact HSI)
    (hQ := fun _ h hz => ⟨fun c => h c, hz⟩)

/-- The arguments end as they began. -/
theorem kept (c : Dev nD) (s : MemSt nD τ sig (Elt F))
    (h : (∀ w : Fin 10, s.mem (((cfg0 (F := F)).win w).arr.view.loc (c : Thread nD τ)) = finalA m c w)
        ∧ s.mem ((c : Thread nD τ).loc main_arg5) = V m c main_arg5) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7) :=
  ⟨((h.1 1).trans ((dats m 0 c).arrAt_in (1 : Fin 10) rfl _)).trans (V_arg m c main_arg0 (by decide)),
    ((h.1 2).trans ((dats m 0 c).arrAt_in (2 : Fin 10) rfl _)).trans (V_arg m c main_arg1 (by decide)),
    ((h.1 5).trans ((dats m 0 c).arrAt_in (5 : Fin 10) rfl _)).trans (V_arg m c main_arg2 (by decide)),
    ((h.1 6).trans ((dats m 0 c).arrAt_in (6 : Fin 10) rfl _)).trans (V_arg m c main_arg3 (by decide)),
    ((h.1 4).trans ((dats m 0 c).arrAt_in (4 : Fin 10) rfl _)).trans (V_arg m c main_arg4 (by decide)),
    h.2.trans (V_arg m c main_arg5 (by decide)),
    ((h.1 0).trans ((dats m 0 c).arrAt_in (0 : Fin 10) rfl _)).trans (V_arg m c main_arg6 (by decide)),
    ((h.1 7).trans ((dats m 0 c).arrAt_in (7 : Fin 10) rfl _)).trans (V_arg m c main_arg7 (by decide))⟩

theorem V_idx (c : Dev nD) : idsOf m c = m ((c : Thread nD τ).loc main_arg6) := V_arg m c main_arg6 (by decide)

end Cert.Proof.K

namespace Cert.Proof.K

open Cert.Kernel Cert.Kernel.Gen
open Idealize.ShloMosaic Idealize.SL.Sem
open Idealize.ShloMosaic.TcCoe

/-- The frame: the program runs, leaves its arguments as they were and every counter at zero. -/
theorem frame [Cert.Pre_ids_name_rows.Facts] : Cert.quiescent_Kernel := by
  intro m ρ hpre
  refine (θ_run defs _ _).mono (fun r h => ⟨fun c => kept m c r.2 (h.1 c), h.2⟩)
    (run_main (F := Bits) m ρ fun c t => ?_)
  rw [V_idx]
  exact row_lt_of_pre _ _ _ _ _ _ _ _ (hpre c) t

end Cert.Proof.K

end
-- ==== Proof.KI.While.lean ====
/-
  The walk of one tile's list. The `while`'s label is answered through a specification: holding the row
  numbers, the table and the links, and the tile at `de`, it returns with the tile at `Link.fold … n de` when it
  is entered at the head of the list of the first `n` entries. Its body meets the specification by
  induction on `n`.
-/
module

public import proofs.«01_k».proof.Proof.Owns
public import proofs.«01_k».proof.Proof.Link
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-- The label is entered at a number of steps still to go. -/
abbrev 𝒱₀ : Variants := Variants.nat

/-! ### Words -/

/-- The word of a number below 256 is not negative. -/
theorem sge_ofNat : ∀ n : Fin 256, Scalar.cmpi .sge (BitVec.ofNat 32 n.val) 0#32 = 1#1 := by decide +kernel

theorem off6_ofNat : ∀ n : Fin 256, k0_off6 (BitVec.ofNat 32 n.val) = ![0, n.val] := by decide +kernel
theorem off8_ofNat : ∀ n : Fin 256, k0_off8 (BitVec.ofNat 32 n.val) = ![n.val, 0] := by decide +kernel
theorem off9_ofNat : ∀ n : Fin 256, k0_off9 (BitVec.ofNat 32 n.val) = ![n.val] := by decide +kernel

/-- A row of tile `i`, counted from the tile's first row. -/
theorem off7_eq (i : grid0.Coords) (v : BitVec 32) (h : v.toNat / 2048 = (i 0).val) :
    k0_off7 i v = ![v.toNat % 2048, 0] := by
  have hi : (i 0).val < 75 := (i 0).isLt
  have hv : (Scalar.indexCast (Scalar.subi v (Scalar.muli (BitVec.ofNat 32 (i 0).val) 2048#32)) : Index).toNat = v.toNat % 2048 := by
    show (v - BitVec.ofNat 32 (i 0).val * 2048#32).toNat = v.toNat % 2048
    rw [BitVec.toNat_sub, BitVec.toNat_mul, BitVec.toNat_ofNat, BitVec.toNat_ofNat]
    omega
  unfold k0_off7
  simp only [hv]

theorem chk2_ofNat (n : Fin 256) : k0_chk2 (BitVec.ofNat 32 n.val) := by
  have hn := n.isLt
  refine ⟨?_, ?_, ?_⟩
  · rw [off6_ofNat]; intro a; fin_cases a <;> simp <;> omega
  · rw [off8_ofNat]; intro a; fin_cases a <;> simp <;> omega
  · rw [off9_ofNat]; intro a; fin_cases a; simp; omega

theorem chk3_of (i : grid0.Coords) (v : BitVec 32) (h : v.toNat / 2048 = (i 0).val) : k0_chk3 i v := by
  unfold k0_chk3
  rw [off7_eq i v h]; intro a; fin_cases a <;> simp <;> omega

/-- One word read: the contents at the rectangle's one index. -/
theorem ld_one2 {α : EltTy → Type} {e : EltTy} (X : S1x256.Idx → α e) {off : Fin 2 → ℕ} (n : Fin 256) (ho : off = ![0, n.val])
    (inb : ∀ a, off a + S1x1.size a ≤ S1x256.size a) :
    View.ld X (Rect.unit (s := S1x256) off S1x1.size inb) = fun _ => X (ix2 0 n) := by
  subst ho
  funext x
  rw [View.ld_apply]
  congr 1
  have h0 := (x 0).isLt; have h1 := (x 1).isLt
  funext a; apply Fin.ext; rw [Rect.idx_unit_val]
  fin_cases a
  · show 0 + (x 0).val = 0; simp at h0 ⊢; omega
  · show n.val + (x 1).val = n.val; simp at h1 ⊢; omega

theorem ld_one1 {α : EltTy → Type} {e : EltTy} {K : ℕ} (X : (⟨1, ![K]⟩ : Shape).Idx → α e) {off : Fin 1 → ℕ} (n : Fin K) (ho : off = ![n.val])
    (inb : ∀ a, off a + S1.size a ≤ (⟨1, ![K]⟩ : Shape).size a) :
    View.ld X (Rect.unit (s := ⟨1, ![K]⟩) off S1.size inb) = fun _ => X (ix1 n) := by
  subst ho
  funext x
  rw [View.ld_apply]
  congr 1
  have h0 := (x 0).isLt
  funext a; apply Fin.ext; rw [Rect.idx_unit_val]
  fin_cases a
  show n.val + (x 0).val = n.val; simp at h0 ⊢; omega

/-- A row of the tile read, the table's row added and the sum stored is one step of the walk. -/
theorem overlay_row (de : S2048x896.Idx → Elt F .f32) (tab : S256x896.Idx → Elt F .f32) {o7 o8 : Fin 2 → ℕ} (r : ℕ) (n : Fin 256)
    (h7 : o7 = ![r, 0]) (h8 : o8 = ![n.val, 0])
    (inb7 : ∀ a, o7 a + S1x896.size a ≤ S2048x896.size a) (inb8 : ∀ a, o8 a + S1x896.size a ≤ S256x896.size a) :
    (Rect.unit (s := S2048x896) o7 S1x896.size inb7).overlay de
      (k0_pay5 (View.ld de (Rect.unit (s := S2048x896) o7 S1x896.size inb7))
        (View.ld tab (Rect.unit (s := S256x896) o8 S1x896.size inb8)))
      = step (FloatOps.addf (F := F) (φ := .f32)) tab r n de := by
  subst h7 h8
  funext y
  unfold step
  by_cases hy : (y 0).val = r
  · rw [if_pos hy]
    let x : S1x896.Idx := ix2 0 (y 1)
    refine (overlay_unit_of_mem inb7 de _ x y ?_).trans ?_
    · intro a; fin_cases a
      · show (y 0).val = r + 0; omega
      · show (y 1).val = 0 + (y 1).val; omega
    unfold k0_pay5
    rw [shapeCast_self]
    show FloatOps.addf (View.ld de (Rect.unit (s := S2048x896) ![r, 0] S1x896.size inb7) x) (View.ld tab (Rect.unit (s := S256x896) ![n.val, 0] S1x896.size inb8) x) = _
    congr 1
    · show de _ = de _
      congr 1; funext a; apply Fin.ext
      refine (Rect.idx_unit_val _ _ inb7 x a).trans ?_
      fin_cases a
      · show r + 0 = (y 0).val; omega
      · show 0 + (y 1).val = (y 1).val; omega
    · show tab _ = tab _
      congr 1; funext a; apply Fin.ext
      refine (Rect.idx_unit_val _ _ inb8 x a).trans ?_
      fin_cases a
      · show n.val + 0 = n.val; omega
      · show 0 + (y 1).val = (y 1).val; omega
  · rw [if_neg hy]
    refine overlay_unit_of_not_mem inb7 de _ y 0 ?_
    show (y 0).val < r ∨ r + 1 ≤ (y 0).val
    omega

/-! ### The label -/

section Label

variable (c : Dev nD) (i : grid0.Coords)
  (arg1 : Memref sig .tc .smem S1x256 .i32) (harg1 : arg1.IsWhole) (arg9 : Memref sig .tc .vmem S2048x896 .f32) (harg9 : arg9.IsWhole)
  (arg12 : Memref sig .tc .vmem S256x896 .f32) (harg12 : arg12.IsWhole) (arg15 : Memref sig .tc .smem S256 .i32) (harg15 : arg15.IsWhole)
  (ids : S1x256.Idx → BitVec 32) (tab : S256x896.Idx → Elt F .f32)

/-- The four buffers of the walk: row numbers, tile, table and links. -/
def held (de : S2048x896.Idx → Elt F .f32) : sProp 𝕄 :=
  iprop(owns (c : Thread nD τ) arg1 fullShare ids ∗ owns (c : Thread nD τ) arg9 fullShare de
    ∗ owns (c : Thread nD τ) arg12 fullShare tab ∗ owns (c : Thread nD τ) arg15 fullShare (links ids))

/-- The label's specification entered with the first `n` entries to walk. -/
def spec (n : ℕ) (de : S2048x896.Idx → Elt F .f32) : sWPT 𝕄 (BitVec 32) := do
  sWPT.consume (held c arg1 arg9 arg12 arg15 ids tab de)
  let r ← sWPT.arbitrary
  sWPT.produce (held c arg1 arg9 arg12 arg15 ids tab (fold (FloatOps.addf (F := F) (φ := .f32)) ids tab (i 0).val n de))
  pure r

theorem spec_apply (n : ℕ) (de : S2048x896.Idx → Elt F .f32) (K : BitVec 32 → sProp 𝕄) :
    spec c i arg1 arg9 arg12 arg15 ids tab n de K
      = iprop(held c arg1 arg9 arg12 arg15 ids tab de ∗ ∀ r : BitVec 32,
          (held c arg1 arg9 arg12 arg15 ids tab (fold (FloatOps.addf (F := F) (φ := .f32)) ids tab (i 0).val n de) -∗ K r)) := rfl

/-- The label's body meets the specification, entered at the head of the list of the first `n` entries. -/
theorem spec_le (E : Set ℕ) :
    ∀ n, n ≤ 256 → ∀ kk, n ≤ kk → ∀ de K, spec c i arg1 arg9 arg12 arg15 ids tab n de K
      ⊢ wp frame (wpE (defs₀ (F := F)) 𝒱₀ (c : Thread nD τ) (some kk)) E
          (defs₀ (F := F) .tc 1 ⟨i, arg1, harg1, arg9, harg9, arg12, harg12, arg15, harg15, prev ids (i 0).val n⟩) K := by
  intro n
  induction n with
  | zero =>
    intro _ kk hk de K
    rw [spec_apply]
    show _ ⊢ wp frame (wpE (defs₀ (F := F)) 𝒱₀ (c : Thread nD τ) (some kk)) E
      (cc0_while1 i arg1 harg1 arg9 harg9 arg12 harg12 arg15 harg15 4294967295#32) K
    simp only [cc0_while1_eq_skeleton]; unfold cc0_while1_skel
    have htest : ¬ Scalar.cmpi .sge 4294967295#32 0#32 = 1#1 := by decide
    simp only [htest, ↓reduceIte, Prog.pure_eq_ret]
    iintro ⟨H, Hk⟩
    rw [wp_ret]; imodintro
    iapply Hk
    iexact H
  | succ n ih =>
    intro hn kk hk de K
    by_cases hit : row ids n / 2048 = (i 0).val
    swap
    · rw [prev_succ_miss ids hit]
      have e : spec c i arg1 arg9 arg12 arg15 ids tab (n + 1) de = spec c i arg1 arg9 arg12 arg15 ids tab n de := by
        unfold spec; rw [fold, dif_neg (fun h => hit h.2)]
      rw [e]
      exact ih (by omega) kk (by omega) de K
    rw [prev_succ_hit ids hit, spec_apply, fold, dif_pos ⟨by omega, hit⟩]
    let nn : Fin 256 := ⟨n, by omega⟩
    have hid : (ids (ix2 0 nn)).toNat = row ids n := by unfold row; rw [dif_pos nn.isLt]
    have hlink : links ids (ix1 nn) = prev ids (i 0).val n := by unfold links; exact congrArg (fun k => prev ids k n) hit
    show _ ⊢ wp frame (wpE (defs₀ (F := F)) 𝒱₀ (c : Thread nD τ) (some kk)) E
      (cc0_while1 i arg1 harg1 arg9 harg9 arg12 harg12 arg15 harg15 (BitVec.ofNat 32 nn.val)) K
    simp only [cc0_while1_eq_skeleton]; unfold cc0_while1_skel
    simp only [sge_ofNat nn, ↓reduceIte, smemLoad, smemLoadElt, Prog.lift, Prog.bind_op, Prog.bind_ret, Prog.pure_eq_ret]
    unfold held
    iintro ⟨⟨H1, H9, H12, H15⟩, Hk⟩
    iapply (wp_assume 𝒱₀ (c : Thread nD τ) (some kk) E (chk2_ofNat nn))
    iapply (wp_load_owns_eq 𝒱₀ (c : Thread nD τ) (some kk) E (m := arg1)
      (ld_one2 (α := Elt F) (e := .i32) ids nn (off6_ofNat nn) _)) $$ H1; iintro H1
    have h3 : (ids (ix2 0 nn)).toNat / 2048 = (i 0).val := by rw [hid]; exact hit
    iapply (wp_assume 𝒱₀ (c : Thread nD τ) (some kk) E (chk3_of i _ h3))
    iapply (wp_load_owns 𝒱₀ (c : Thread nD τ) (some kk) E (m := arg9)) $$ H9; iintro H9
    iapply (wp_load_owns 𝒱₀ (c : Thread nD τ) (some kk) E (m := arg12)) $$ H12; iintro H12
    iapply (wp_load_owns 𝒱₀ (c : Thread nD τ) (some kk) E (m := arg9)) $$ H9; iintro H9
    iapply (wp_store_owns_eq 𝒱₀ (c : Thread nD τ) (some kk) E (m := arg9)
      (overlay_row de tab (row ids n % 2048) nn (hid ▸ off7_eq i _ h3) (off8_ofNat nn) _ _)) $$ H9; iintro H9
    iapply (wp_load_owns_eq 𝒱₀ (c : Thread nD τ) (some kk) E (m := arg15)
      (ld_one1 (α := Elt F) (e := .i32) (links ids) nn (off9_ofNat nn) _)) $$ H15; iintro H15
    rw [hlink]
    iapply (wp_call_spec 𝒱₀ (c : Thread nD τ) (some kk) E
      (spec c i arg1 arg9 arg12 arg15 ids tab n (step (FloatOps.addf (F := F) (φ := .f32)) tab (row ids n % 2048) nn de)) n
      (fun u hu => by cases hu; exact Nat.lt_of_succ_le hk)
      (ih (by omega) n (Nat.le_refl n) _))
    rw [spec_apply]; unfold held
    isplitl [H1 H9 H12 H15]
    · isplitl [H1]; · iexact H1
      isplitl [H9]; · iexact H9
      isplitl [H12]; · iexact H12
      iexact H15
    iintro %r H
    rw [wp_ret]; imodintro
    iapply Hk
    iexact H

end Label

end Cert.Proof.KI

end
-- ==== Proof.KI.Loops.lean ====
/-
  The two counted loops of the first point: the heads are all set to the word of `-1`, then the 256 entries
  are put in their tiles' lists one after the other.
-/
module

public import proofs.«01_k».proof.Proof.KI.While

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-! ### Trips and offsets -/

theorem trips1 : k0_t1_loop.trips = 75 := by decide +kernel
theorem trips2 : k0_t2_loop.trips = 256 := by decide +kernel

/-- The tile of a row number. -/
theorem off3_eq (v : BitVec 32) : k0_off3 v = ![v.toNat / 2048] := by
  have hv : (Scalar.indexCast (Scalar.shrui v 11#32) : Index).toNat = v.toNat / 2048 := by
    show (IntOp.shrui .scalar v 11#32).toNat = _
    simp [IntOp.shrui, IntOp.cornerWord, Nat.shiftRight_eq_div_pow]
  unfold k0_off3
  simp only [hv]

theorem chk1_of (i : grid0.Coords) (v : BitVec 32) (h : v.toNat < 151936) : k0_chk1 i v := by
  intro _
  rw [off3_eq]; intro a; fin_cases a; simp; omega

/-- One word stored: the contents with that word replaced. -/
theorem overlay_one {K : ℕ} (X Y : (⟨1, ![K]⟩ : Shape).Idx → Elt F .i32) {off : Fin 1 → ℕ} (n : ℕ) (ho : off = ![n])
    (inb : ∀ a, off a + S1.size a ≤ (⟨1, ![K]⟩ : Shape).size a) (w : Elt F .i32)
    (hY : ∀ y, Y y = if (y 0).val = n then w else X y) :
    (Rect.unit (s := ⟨1, ![K]⟩) off S1.size inb).overlay X (fun _ => w) = Y := by
  subst ho
  funext y
  rw [hY]
  by_cases h : (y 0).val = n
  · rw [if_pos h]
    refine overlay_unit_of_mem inb X (fun _ => w) (ix1 0 : S1.Idx) y ?_
    intro a; fin_cases a; show (y 0).val = n + 0; omega
  · rw [if_neg h]
    refine overlay_unit_of_not_mem inb X _ y 0 ?_
    show (y 0).val < n ∨ n + 1 ≤ (y 0).val
    omega

/-! ### The loops -/

section Loops

variable (c : Dev nD) (i : grid0.Coords)
  (arg1 : Memref sig .tc .smem S1x256 .i32) (harg1 : arg1.IsWhole)
  (arg2 : Memref sig .tc .vmem S1x256x2048 .fp8e5m2) (harg2 : arg2.IsWhole)
  (arg3 : Memref sig .tc .vmem S1x2x2048 .f32) (harg3 : arg3.IsWhole)
  (arg4 : Memref sig .tc .vmem S1x2048 .f32) (harg4 : arg4.IsWhole)
  (arg5 : Memref sig .tc .vmem S2048x896 .i8) (harg5 : arg5.IsWhole)
  (arg6 : Memref sig .tc .vmem S1x256x896 .fp8e4m3) (harg6 : arg6.IsWhole)
  (arg7 : Memref sig .tc .vmem S1x256 .f32) (harg7 : arg7.IsWhole)
  (arg8 : Memref sig .tc .vmem S1x256x896 .bf16) (harg8 : arg8.IsWhole)
  (arg9 : Memref sig .tc .vmem S2048x896 .f32) (harg9 : arg9.IsWhole)
  (arg10 : Memref sig .tc .vmem S1x256x896 .bf16) (harg10 : arg10.IsWhole)
  (arg11 : Memref sig .tc .vmem S256x896 .bf16) (harg11 : arg11.IsWhole)
  (arg12 : Memref sig .tc .vmem S256x896 .f32) (harg12 : arg12.IsWhole)
  (arg13 : Memref sig .tc .vmem S256x896 .f32) (harg13 : arg13.IsWhole)
  (arg14 : Memref sig .tc .smem S75 .i32) (harg14 : arg14.IsWhole)
  (arg15 : Memref sig .tc .smem S256 .i32) (harg15 : arg15.IsWhole)
  (ids : S1x256.Idx → BitVec 32)

/-- Before trip `k` of the first loop the first `k` heads are the word of `-1`. -/
def inv1 (k : ℕ) (_ : Unit) : sProp 𝕄 :=
  iprop(∃ X : S75.Idx → BitVec 32, ⌜∀ y, (y 0).val < k → X y = 4294967295#32⌝ ∗ owns (c : Thread nD τ) arg14 fullShare X)

theorem trip1 (E : Set ℕ) (h1 : k0_cond1 i = 1#1) (k : Fin k0_t1_loop.trips) (acc : Unit) :
    inv1 (F := F) c arg14 k.val acc ⊢ wp frame (wpE (defs₀ (F := F)) 𝒱₀ (c : Thread nD τ) none) E
      (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 h1 k acc) (inv1 (F := F) c arg14 (k.val + 1)) := by
  unfold inv1 k0_t1_body
  simp only [smemLoad, smemLoadElt, Prog.lift, Prog.bind_op, Prog.bind_ret, Prog.pure_eq_ret]
  iintro ⟨%X, %hX, H⟩
  iapply (wp_load_owns 𝒱₀ (c : Thread nD τ) none E (m := arg14)) $$ H; iintro H
  iapply (wp_store_owns_eq 𝒱₀ (c : Thread nD τ) none E (m := arg14)
    (overlay_one (F := F) X (fun y => if (y 0).val = k.val then 4294967295#32 else X y) k.val (k0_off1_eq k) _ _ fun _ => rfl)) $$ H; iintro H
  rw [wp_ret]; imodintro
  iexists (fun y : S75.Idx => if (y 0).val = k.val then 4294967295#32 else X y); isplitr
  · ipureintro
    intro y hy
    dsimp only
    split
    · rfl
    · exact hX y (by omega)
  · iexact H

/-- The first loop sets every head to the word of `-1`: the heads before the first entry. -/
theorem loop1 (E : Set ℕ) (h1 : k0_cond1 i = 1#1) (X : S75.Idx → BitVec 32) (Q : Unit → sProp 𝕄) :
    iprop(owns (c : Thread nD τ) arg14 fullShare X ∗ (owns (c : Thread nD τ) arg14 fullShare (heads ids 0) -∗ Q ⟨⟩))
      ⊢ wp frame (wpE (defs₀ (F := F)) 𝒱₀ (c : Thread nD τ) none) E
        (Scf.Loop.for k0_t1_loop (k0_t1_ok i h1) ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 h1)) Q := by
  iintro ⟨H, Hk⟩
  iapply (Scf.wp_for frame (wpE (defs₀ (F := F)) 𝒱₀ (c : Thread nD τ) none) E _ _ _ (k0_t1_ok i h1) ⟨⟩ _ (inv1 c arg14)
    (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 E h1))
  isplitl [H]
  · unfold inv1
    iexists X; isplitr
    · ipureintro; intro y hy; exact absurd hy (Nat.not_lt_zero _)
    · iexact H
  iintro %acc HI
  unfold inv1
  icases HI with ⟨%Y, %hY, H⟩
  have e : Y = heads ids 0 := funext fun y => hY y (lt_of_lt_of_eq (y 0).isLt trips1.symm)
  rw [e]
  iapply Hk; iexact H

/-- Before trip `n` of the second loop the first `n` entries are in their lists. -/
def inv2 (n : ℕ) (_ : Unit) : sProp 𝕄 :=
  iprop(owns (c : Thread nD τ) arg1 fullShare ids ∗ owns (c : Thread nD τ) arg14 fullShare (heads ids n)
    ∗ ∃ X : S256.Idx → BitVec 32, ⌜∀ y, (y 0).val < n → X y = links ids y⌝ ∗ owns (c : Thread nD τ) arg15 fullShare X)

theorem trip2 (E : Set ℕ) (h1 : k0_cond1 i = 1#1) (hids : ∀ t, row ids t < 151936) (k : Fin k0_t2_loop.trips) (acc : Unit) :
    inv2 (F := F) c arg1 arg14 arg15 ids k.val acc ⊢ wp frame (wpE (defs₀ (F := F)) 𝒱₀ (c : Thread nD τ) none) E
      (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 h1 k acc) (inv2 (F := F) c arg1 arg14 arg15 ids (k.val + 1)) := by
  have hk : k.val < 256 := lt_of_lt_of_eq k.isLt trips2
  let nn : Fin 256 := ⟨k.val, hk⟩
  have hid : (ids (ix2 0 nn)).toNat = row ids k.val := by unfold row; rw [dif_pos hk]
  have hr : row ids k.val < 151936 := hids _
  let tt : Fin 75 := ⟨row ids k.val / 2048, by omega⟩
  have h3 : k0_off3 (ids (ix2 0 nn)) = ![tt.val] := by rw [off3_eq, hid]
  have hiv : Scf.iv 0#32 1#32 k = BitVec.ofNat 32 k.val := by
    show 0#32 + BitVec.ofNat 32 k.val * 1#32 = _
    simp
  unfold inv2 k0_t2_body
  simp only [smemLoad, smemLoadElt, Prog.lift, Prog.bind_op, Prog.bind_ret, Prog.pure_eq_ret]
  iintro ⟨H1, H14, %X, %hX, H15⟩
  iapply (wp_load_owns_eq 𝒱₀ (c : Thread nD τ) none E (m := arg1)
    (ld_one2 (α := Elt F) (e := .i32) ids nn (k0_off2_eq k) _)) $$ H1; iintro H1
  iapply (wp_assume 𝒱₀ (c : Thread nD τ) none E (chk1_of i _ (hid ▸ hr)))
  iapply (wp_load_owns_eq 𝒱₀ (c : Thread nD τ) none E (m := arg14)
    (ld_one1 (α := Elt F) (e := .i32) (heads ids k.val) tt h3 _)) $$ H14; iintro H14
  iapply (wp_load_owns 𝒱₀ (c : Thread nD τ) none E (m := arg15)) $$ H15; iintro H15
  iapply (wp_store_owns_eq 𝒱₀ (c : Thread nD τ) none E (m := arg15)
    (overlay_one (F := F) X (fun y => if (y 0).val = k.val then heads ids k.val (ix1 tt) else X y) k.val (k0_off4_eq k) _ _ fun _ => rfl)) $$ H15; iintro H15
  iapply (wp_load_owns 𝒱₀ (c : Thread nD τ) none E (m := arg14)) $$ H14; iintro H14
  iapply (wp_store_owns_eq 𝒱₀ (c : Thread nD τ) none E (m := arg14)
    (overlay_one (F := F) (heads ids k.val) (heads ids (k.val + 1)) tt.val h3 _ _ (by
      intro y
      show prev ids (y 0).val (k.val + 1) = if (y 0).val = tt.val then _ else prev ids (y 0).val k.val
      by_cases h : (y 0).val = tt.val
      · rw [if_pos h, prev_succ_hit ids h.symm]; exact hiv.symm
      · rw [if_neg h, prev_succ_miss ids fun e => h e.symm]))) $$ H14; iintro H14
  rw [wp_ret]; imodintro
  isplitl [H1]; · iexact H1
  isplitl [H14]; · iexact H14
  iexists (fun y : S256.Idx => if (y 0).val = k.val then heads ids k.val (ix1 tt) else X y); isplitr
  · ipureintro
    intro y hy
    dsimp only
    split
    · rename_i h
      unfold links heads
      rw [h]
    · exact hX y (by omega)
  · iexact H15

/-- The second loop leaves the heads of all 256 entries and the links. -/
theorem loop2 (E : Set ℕ) (h1 : k0_cond1 i = 1#1) (hids : ∀ t, row ids t < 151936) (X : S256.Idx → BitVec 32) (Q : Unit → sProp 𝕄) :
    iprop(owns (c : Thread nD τ) arg1 fullShare ids ∗ owns (c : Thread nD τ) arg14 fullShare (heads ids 0)
        ∗ owns (c : Thread nD τ) arg15 fullShare X
        ∗ ((owns (c : Thread nD τ) arg1 fullShare ids ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E
        (Scf.Loop.for k0_t2_loop (k0_t2_ok i h1) ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 h1)) Q := by
  iintro ⟨H1, H14, H15, Hk⟩
  iapply (Scf.wp_for frame (wpE (defs₀ (F := F)) 𝒱₀ (c : Thread nD τ) none) E _ _ _ (k0_t2_ok i h1) ⟨⟩ _ (inv2 c arg1 arg14 arg15 ids)
    (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 ids E h1 hids))
  isplitl [H1 H14 H15]
  · unfold inv2
    isplitl [H1]; · iexact H1
    isplitl [H14]; · iexact H14
    iexists X; isplitr
    · ipureintro; intro y hy; exact absurd hy (Nat.not_lt_zero _)
    · iexact H15
  iintro %acc HI
  unfold inv2
  icases HI with ⟨H1, H14, %Y, %hY, H15⟩
  have e : Y = links ids := funext fun y => hY y (lt_of_lt_of_eq (y 0).isLt trips2.symm)
  rw [e]
  have e2 : Scf.trips k0_t2_loop.lb k0_t2_loop.ub k0_t2_loop.st = 256 := trips2
  rw [e2]
  iapply Hk
  isplitl [H1]; · iexact H1
  isplitl [H14]; · iexact H14
  iexact H15

end Loops

end Cert.Proof.KI

end
-- ==== Proof.KI.Init.lean ====
/-
  What the first point prepares: the hidden rows times their scales, stored in seven column chunks, the table of
  widened rows, and a zero sum.
-/
module

public import proofs.«01_k».proof.Proof.KI.Loops
public import Idealize.ShloMosaic.Lib.ValueLayout

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-- The scaled hidden rows: each element widened, times its row's rounded scale. -/
def hhOf (h : S1x256x896.Idx → Elt F .fp8e4m3) (hs : S1x256.Idx → Elt F .f32) : S256x896.Idx → Elt F .bf16 :=
  fun y => FloatOps.mulf (FloatOps.extf .bf16 bitsLt_fp8e4m3_bf16 (h (ix3 0 (y 0) (y 1)))) (FloatOps.truncf .bf16 bitsLt_bf16_f32 (hs (ix2 0 (y 0))))

/-- Contents that are `G` on the first `n` columns. -/
def cols {α : Type} (n : ℕ) (X G : S256x896.Idx → α) : S256x896.Idx → α := fun y => if (y 1).val < n then G y else X y

theorem cols_zero {α : Type} (X G : S256x896.Idx → α) : cols 0 X G = X := rfl
theorem cols_all {α : Type} (X G : S256x896.Idx → α) : cols 896 X G = G := funext fun y => if_pos (y 1).isLt

/-- The next chunk of 128 columns stored. -/
theorem overlay_cols {e : EltTy} (X G : S256x896.Idx → Elt F e) {off : Fin 2 → ℕ} (o o' : ℕ) (ho : off = ![0, o]) (ho' : o' = o + 128)
    (inb : ∀ a, off a + S256x128.size a ≤ S256x896.size a) (w : S256x128.Idx → Elt F e)
    (hw : ∀ (p : Fin 256) (q : Fin 128) (q' : Fin 896), q'.val = o + q.val → w (ix2 p q) = G (ix2 p q')) :
    (Rect.unit (s := S256x896) off S256x128.size inb).overlay (cols o X G) w = cols o' X G := by
  subst ho ho'
  funext y
  obtain ⟨p, r, rfl⟩ : ∃ (p : Fin 256) (r : Fin 896), y = ix2 p r := ⟨y 0, y 1, eq_ix2 y⟩
  by_cases h : o ≤ r.val ∧ r.val < o + 128
  · let q : Fin 128 := ⟨r.val - o, by omega⟩
    refine (overlay_unit_of_mem inb _ w (ix2 p q) (ix2 p r) ?_).trans ?_
    · intro a; fin_cases a
      · show p.val = 0 + p.val; omega
      · show r.val = o + (r.val - o); omega
    · rw [hw p q r (by show _ = o + (r.val - o); omega)]
      exact (if_pos h.2).symm
  · refine (overlay_unit_of_not_mem inb _ w (ix2 p r) 1 ?_).trans ?_
    · show r.val < o ∨ o + 128 ≤ r.val; omega
    · show (if r.val < o then _ else _) = if r.val < o + 128 then _ else _
      by_cases h' : r.val < o
      · rw [if_pos h', if_pos (by omega)]
      · rw [if_neg h', if_neg (by omega)]

/-- The rounded scales, one row's scale in all of its columns. -/
theorem pay8_apply (hs : Vec F S1x256 .f32) (p : Fin 256) (q : Fin 128) :
    k0_pay8 hs (ix2 p q) = FloatOps.truncf .bf16 bitsLt_bf16_f32 (hs (ix2 0 p)) := by
  unfold k0_pay8
  show FloatOps.truncf .bf16 _ (transpose S256x128 [1, 0] _ _ (ix2 p q)) = _
  rw [transpose_ix2_apply, broadcastTo_1b_ab_apply, shapeCast_self]

/-- One chunk of the scaled rows. -/
theorem chunk_apply (h : S1x256x896.Idx → Elt F .fp8e4m3) (hs : Vec F S1x256 .f32) {off : Fin 3 → ℕ} (o : ℕ) (ho : off = ![0, 0, o])
    (inb : ∀ a, off a + S1x256x128.size a ≤ S1x256x896.size a) (p : Fin 256) (q : Fin 128) (q' : Fin 896) (hq : q'.val = o + q.val) :
    mulf (extf .bf16 (shapeCast S256x128 (View.ld h (Rect.unit (s := S1x256x896) off S1x256x128.size inb) : Vec F S1x256x128 .fp8e4m3)
        shapeCasts_S1x256x128_S256x128) bitsLt_fp8e4m3_bf16) (k0_pay8 hs) (ix2 p q) = hhOf h hs (ix2 p q') := by
  subst ho
  show FloatOps.mulf (FloatOps.extf .bf16 _ (shapeCast S256x128 _ _ (ix2 p q))) (k0_pay8 hs (ix2 p q)) = _
  rw [pay8_apply, shapeCast_1ab_ab_apply]
  show FloatOps.mulf (FloatOps.extf .bf16 _ (h _)) _ = FloatOps.mulf (FloatOps.extf .bf16 _ (h (ix3 0 p q'))) _
  congr 3
  funext a; apply Fin.ext
  refine (Rect.idx_unit_val _ _ inb (ix3 0 p q) a).trans ?_
  fin_cases a
  · rfl
  · show 0 + p.val = p.val; omega
  · show o + q.val = q'.val; omega

theorem z2 : (![0, 0] : Fin 2 → ℕ) = fun _ => 0 := by funext a; fin_cases a <;> rfl
theorem z3 : (![0, 0, 0] : Fin 3 → ℕ) = fun _ => 0 := by funext a; fin_cases a <;> rfl

section Init

variable (c : Dev nD) (i : grid0.Coords)
  (arg1 : Memref sig .tc .smem S1x256 .i32) (harg1 : arg1.IsWhole)
  (arg2 : Memref sig .tc .vmem S1x256x2048 .fp8e5m2) (harg2 : arg2.IsWhole)
  (arg3 : Memref sig .tc .vmem S1x2x2048 .f32) (harg3 : arg3.IsWhole)
  (arg4 : Memref sig .tc .vmem S1x2048 .f32) (harg4 : arg4.IsWhole)
  (arg5 : Memref sig .tc .vmem S2048x896 .i8) (harg5 : arg5.IsWhole)
  (arg6 : Memref sig .tc .vmem S1x256x896 .fp8e4m3) (harg6 : arg6.IsWhole)
  (arg7 : Memref sig .tc .vmem S1x256 .f32) (harg7 : arg7.IsWhole)
  (arg8 : Memref sig .tc .vmem S1x256x896 .bf16) (harg8 : arg8.IsWhole)
  (arg9 : Memref sig .tc .vmem S2048x896 .f32) (harg9 : arg9.IsWhole)
  (arg10 : Memref sig .tc .vmem S1x256x896 .bf16) (harg10 : arg10.IsWhole)
  (arg11 : Memref sig .tc .vmem S256x896 .bf16) (harg11 : arg11.IsWhole)
  (arg12 : Memref sig .tc .vmem S256x896 .f32) (harg12 : arg12.IsWhole)
  (arg13 : Memref sig .tc .vmem S256x896 .f32) (harg13 : arg13.IsWhole)
  (arg14 : Memref sig .tc .smem S75 .i32) (harg14 : arg14.IsWhole)
  (arg15 : Memref sig .tc .smem S256 .i32) (harg15 : arg15.IsWhole)

theorem part1_wp (E : Set ℕ) (h : S1x256x896.Idx → Elt F .fp8e4m3) (hs : S1x256.Idx → Elt F .f32) (demb : S1x256x896.Idx → Elt F .bf16)
    (X11 : S256x896.Idx → Elt F .bf16) (X12 X13 : S256x896.Idx → Elt F .f32)
    (Q : (Σ' (v26 : FVec F S256x128 .bf16), FVec F S256x128 .bf16) → sProp 𝕄) :
    iprop(owns (c : Thread nD τ) arg6 fullShare h ∗ owns (c : Thread nD τ) arg7 fullShare hs ∗ owns (c : Thread nD τ) arg8 fullShare demb
        ∗ owns (c : Thread nD τ) arg11 fullShare X11 ∗ owns (c : Thread nD τ) arg12 fullShare X12 ∗ owns (c : Thread nD τ) arg13 fullShare X13
        ∗ ((owns (c : Thread nD τ) arg6 fullShare h ∗ owns (c : Thread nD τ) arg7 fullShare hs ∗ owns (c : Thread nD τ) arg8 fullShare demb
          ∗ owns (c : Thread nD τ) arg11 fullShare (cols 256 X11 (hhOf h hs)) ∗ owns (c : Thread nD τ) arg12 fullShare (k0_pay7 demb)
          ∗ owns (c : Thread nD τ) arg13 fullShare (k0_pay6 (F := F)))
          -∗ Q ⟨k0_pay8 hs, k0_pay11 hs (View.ld h (Rect.unit (s := S1x256x896) ![0, 0, 256] S1x256x128.size inb_S1x256x896_S1x256x128_0_0_256))⟩))
      ⊢ wp frame (wpE (defs₀ (F := F)) 𝒱₀ (c : Thread nD τ) none) E (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  rw [k0_part1_eq_skeleton]; unfold k0_part1_skel
  simp only [Prog.lift, Prog.bind_op, Prog.bind_ret, Prog.pure_eq_ret]
  rw [show (owns (c : Thread nD τ) arg11 fullShare X11 : sProp 𝕄) = owns (c : Thread nD τ) arg11 fullShare (cols 0 X11 (hhOf h hs)) from rfl]
  iintro ⟨H6, H7, H8, H11, H12, H13, Hk⟩
  iapply (wp_load_owns 𝒱₀ (c : Thread nD τ) none E (m := arg13)) $$ H13; iintro H13
  iapply (wp_store_owns_eq 𝒱₀ (c : Thread nD τ) none E (m := arg13) (overlay_full z2 _ X13 _)) $$ H13; iintro H13
  iapply (wp_load_owns_eq 𝒱₀ (c : Thread nD τ) none E (m := arg8) (ld_full z3 _ demb)) $$ H8; iintro H8
  iapply (wp_load_owns 𝒱₀ (c : Thread nD τ) none E (m := arg12)) $$ H12; iintro H12
  iapply (wp_store_owns_eq 𝒱₀ (c : Thread nD τ) none E (m := arg12) (overlay_full z2 _ X12 _)) $$ H12; iintro H12
  iapply (wp_load_owns_eq 𝒱₀ (c : Thread nD τ) none E (m := arg7) (ld_full z2 _ hs)) $$ H7; iintro H7
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 0 128 rfl rfl _ _ (fun p q q' hq => by
      unfold k0_pay9; rw [shapeCast_self]; exact chunk_apply h hs 0 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 128 256 rfl rfl _ _ (fun p q q' hq => by
      unfold k0_pay10; rw [shapeCast_self]; exact chunk_apply h hs 128 rfl _ p q q' hq))) $$ H11; iintro H11
  iapply (wp_load_owns 𝒱₀ (c : Thread nD τ) none E (m := arg6)) $$ H6; iintro H6
  rw [wp_ret]; imodintro
  iapply Hk
  isplitl [H6]; · iexact H6
  isplitl [H7]; · iexact H7
  isplitl [H8]; · iexact H8
  isplitl [H11]; · iexact H11
  isplitl [H12]; · iexact H12
  iexact H13

theorem part2_wp (E : Set ℕ) (h : S1x256x896.Idx → Elt F .fp8e4m3) (hs : S1x256.Idx → Elt F .f32)
    (X11 : S256x896.Idx → Elt F .bf16) (Q : (Σ' (c0_i32_41 : BitVec 32), BitVec 32) → sProp 𝕄) :
    iprop(owns (c : Thread nD τ) arg6 fullShare h ∗ owns (c : Thread nD τ) arg11 fullShare (cols 256 X11 (hhOf h hs))
        ∗ ((owns (c : Thread nD τ) arg6 fullShare h ∗ owns (c : Thread nD τ) arg11 fullShare (hhOf h hs)) -∗ Q ⟨0#32, 75#32⟩))
      ⊢ wp frame (wpE (defs₀ (F := F)) 𝒱₀ (c : Thread nD τ) none) E (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay8 hs)
          (k0_pay11 hs (View.ld h (Rect.unit (s := S1x256x896) ![0, 0, 256] S1x256x128.size inb_S1x256x896_S1x256x128_0_0_256)))) Q := by
  rw [k0_part2_eq_skeleton]; unfold k0_part2_skel
  simp only [Prog.lift, Prog.bind_op, Prog.bind_ret, Prog.pure_eq_ret]
  iintro ⟨H6, H11, Hk⟩
  iapply (wp_load_owns 𝒱₀ (c : Thread nD τ) none E (m := arg11)) $$ H11; iintro H11
  iapply (wp_store_owns_eq 𝒱₀ (c : Thread nD τ) none E (m := arg11)
    (overlay_cols X11 (hhOf h hs) 256 384 rfl rfl _ _ (fun p q q' hq => by
      unfold k0_pay12 k0_pay11; rw [shapeCast_self]; exact chunk_apply h hs 256 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 384 512 rfl rfl _ _ (fun p q q' hq => by
      unfold k0_pay13; rw [shapeCast_self]; exact chunk_apply h hs 384 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 512 640 rfl rfl _ _ (fun p q q' hq => by
      unfold k0_pay14; rw [shapeCast_self]; exact chunk_apply h hs 512 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 640 768 rfl rfl _ _ (fun p q q' hq => by
      unfold k0_pay15; rw [shapeCast_self]; exact chunk_apply h hs 640 rfl _ p q q' hq))) $$ H11; iintro H11
  iapply (wp_load_owns 𝒱₀ (c : Thread nD τ) none E (m := arg6)) $$ H6; iintro H6
  iapply (wp_load_owns 𝒱₀ (c : Thread nD τ) none E (m := arg11)) $$ H11; iintro H11
  iapply (wp_store_owns_eq 𝒱₀ (c : Thread nD τ) none E (m := arg11)
    (overlay_cols X11 (hhOf h hs) 768 896 rfl rfl _ _ (fun p q q' hq => by
      unfold k0_pay16; rw [shapeCast_self]; exact chunk_apply h hs 768 rfl _ p q q' hq))) $$ H11; iintro H11
  rw [cols_all, wp_ret]; imodintro
  iapply Hk
  isplitl [H6]; · iexact H6
  iexact H11

end Init

end Cert.Proof.KI

end
-- ==== Proof.KI.Tile.lean ====
/-
  The body at each point, for any staging buffers: every point stores its tile of the second result, adds the
  tile's product to the first result's sum and walks the tile's list. The first point prepares the scratch
  buffers before that; the last one works on the 384 rows that exist and stores the first result.
-/
module

public import proofs.«01_k».proof.Proof.KI.Init

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own Cert.Link

variable {F : FTy → Type} [FloatOps F]

local notation "𝕄" => MT nD τ sig Unit (Elt F) ℕ (UR sig nD τ) ℕ

/-- Which branches a point takes. -/
theorem cond1_iff : ∀ i : grid0.Coords, k0_cond1 i = 1#1 ↔ (i 0).val = 0 := by decide +kernel
theorem cond3_iff : ∀ i : grid0.Coords, k0_cond3 i = 1#1 ↔ (i 0).val = 74 := by decide +kernel
theorem cond2_iff : ∀ i : grid0.Coords,
    Scalar.cmpi .ne (Scalar.extui (Scalar.cmpi .slt (BitVec.ofNat 32 (i 0).val) 74#32) : BitVec 32) 0#32 = 1#1 ↔ (i 0).val < 74 := by
  decide +kernel

/-- The two halves of the sequence in a tile. -/
abbrev halfA (X2 : S1x256x2048.Idx → Elt F .fp8e5m2) : Vec F S1x128x2048 .fp8e5m2 :=
  View.ld X2 (Rect.unit (s := S1x256x2048) ![0, 0, 0] S1x128x2048.size inb_S1x256x2048_S1x128x2048_0_0_0)
abbrev halfB (X2 : S1x256x2048.Idx → Elt F .fp8e5m2) : Vec F S1x128x2048 .fp8e5m2 :=
  View.ld X2 (Rect.unit (s := S1x256x2048) ![0, 128, 0] S1x128x2048.size inb_S1x256x2048_S1x128x2048_0_128_0)

/-- The valid part of the last tile: 384 rows of the vocabulary. -/
abbrev cutA (X2 : S1x256x2048.Idx → Elt F .fp8e5m2) : Vec F S1x128x384 .fp8e5m2 :=
  View.ld X2 (Rect.unit (s := S1x256x2048) ![0, 0, 0] S1x128x384.size inb_S1x256x2048_S1x128x384_0_0_0)
abbrev cutB (X2 : S1x256x2048.Idx → Elt F .fp8e5m2) : Vec F S1x128x384 .fp8e5m2 :=
  View.ld X2 (Rect.unit (s := S1x256x2048) ![0, 128, 0] S1x128x384.size inb_S1x256x2048_S1x128x384_0_128_0)
abbrev cut3 (X3 : S1x2x2048.Idx → Elt F .f32) : Vec F S1x2x384 .f32 :=
  View.ld X3 (Rect.unit (s := S1x2x2048) ![0, 0, 0] S1x2x384.size inb_S1x2x2048_S1x2x384_0_0_0)
abbrev cut4 (X4 : S1x2048.Idx → Elt F .f32) : Vec F S1x384 .f32 :=
  View.ld X4 (Rect.unit (s := S1x2048) ![0, 0] S1x384.size inb_S1x2048_S1x384_0_0)
abbrev cut5 (X5 : S2048x896.Idx → Elt F .i8) : Vec F S384x896 .i8 :=
  View.ld X5 (Rect.unit (s := S2048x896) ![0, 0] S384x896.size inb_S2048x896_S384x896_0_0)
/-- Contents of the tile with the first 384 rows stored. -/
abbrev put9 (X9 : S2048x896.Idx → Elt F .f32) (w : FVec F S384x896 .f32) : S2048x896.Idx → Elt F .f32 :=
  (Rect.unit (s := S2048x896) ![0, 0] S384x896.size inb_S2048x896_S384x896_0_0).overlay X9 w

section Tile

variable (c : Dev nD) (i : grid0.Coords)
  (arg1 : Memref sig .tc .smem S1x256 .i32) (harg1 : arg1.IsWhole)
  (arg2 : Memref sig .tc .vmem S1x256x2048 .fp8e5m2) (harg2 : arg2.IsWhole)
  (arg3 : Memref sig .tc .vmem S1x2x2048 .f32) (harg3 : arg3.IsWhole)
  (arg4 : Memref sig .tc .vmem S1x2048 .f32) (harg4 : arg4.IsWhole)
  (arg5 : Memref sig .tc .vmem S2048x896 .i8) (harg5 : arg5.IsWhole)
  (arg6 : Memref sig .tc .vmem S1x256x896 .fp8e4m3) (harg6 : arg6.IsWhole)
  (arg7 : Memref sig .tc .vmem S1x256 .f32) (harg7 : arg7.IsWhole)
  (arg8 : Memref sig .tc .vmem S1x256x896 .bf16) (harg8 : arg8.IsWhole)
  (arg9 : Memref sig .tc .vmem S2048x896 .f32) (harg9 : arg9.IsWhole)
  (arg10 : Memref sig .tc .vmem S1x256x896 .bf16) (harg10 : arg10.IsWhole)
  (arg11 : Memref sig .tc .vmem S256x896 .bf16) (harg11 : arg11.IsWhole)
  (arg12 : Memref sig .tc .vmem S256x896 .f32) (harg12 : arg12.IsWhole)
  (arg13 : Memref sig .tc .vmem S256x896 .f32) (harg13 : arg13.IsWhole)
  (arg14 : Memref sig .tc .smem S75 .i32) (harg14 : arg14.IsWhole)
  (arg15 : Memref sig .tc .smem S256 .i32) (harg15 : arg15.IsWhole)
  (ids : S1x256.Idx → BitVec 32)

/-- A point that is neither the first nor the last. -/
theorem body_mid (E : Set ℕ) (h0 : (i 0).val ≠ 0) (h74 : (i 0).val < 74)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (hh : S256x896.Idx → Elt F .bf16) (tab acc : S256x896.Idx → Elt F .f32) (Q : PUnit → sProp 𝕄) :
    iprop(owns (c : Thread nD τ) arg1 fullShare ids
        ∗ owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg9 fullShare X9
        ∗ owns (c : Thread nD τ) arg11 fullShare hh
        ∗ owns (c : Thread nD τ) arg12 fullShare tab
        ∗ owns (c : Thread nD τ) arg13 fullShare acc
        ∗ owns (c : Thread nD τ) arg14 fullShare (heads ids 256)
        ∗ owns (c : Thread nD τ) arg15 fullShare (links ids)
        ∗ ((owns (c : Thread nD τ) arg1 fullShare ids
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg9 fullShare (fold (FloatOps.addf (F := F) (φ := .f32)) ids tab (i 0).val 256 (k0_pay2 X3 (halfA X2) (halfB X2) hh))
          ∗ owns (c : Thread nD τ) arg11 fullShare hh
          ∗ owns (c : Thread nD τ) arg12 fullShare tab
          ∗ owns (c : Thread nD τ) arg13 fullShare (k0_pay3 X3 (halfA X2) (halfB X2) X4 acc X5)
          ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E (cc0_tied_head_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have c1 : ¬ k0_cond1 i = 1#1 := fun h => h0 ((cond1_iff i).mp h)
  have c2 := (cond2_iff i).mpr h74
  have c3 : ¬ k0_cond3 i = 1#1 := fun h => absurd ((cond3_iff i).mp h) (by omega)
  rw [cc0_tied_head_bwd_eq_skeleton]; unfold cc0_tied_head_bwd_skel
  rw [dif_neg c1]
  simp only [dif_neg c3, dif_pos c2, smemLoad, smemLoadElt, Prog.lift, Prog.bind_op, Prog.bind_ret, Prog.pure_eq_ret]
  iintro ⟨H1, H2, H3, H4, H5, H9, H11, H12, H13, H14, H15, Hk⟩
  iapply (wp_load_owns_eq 𝒱₀ (c : Thread nD τ) none E (m := arg3) (ld_full z3 _ X3)) $$ H3; iintro H3
  iapply (wp_load_owns 𝒱₀ (c : Thread nD τ) none E (m := arg2)) $$ H2; iintro H2
  iapply (wp_load_owns 𝒱₀ (c : Thread nD τ) none E (m := arg2)) $$ H2; iintro H2
  iapply (wp_load_owns_eq 𝒱₀ (c : Thread nD τ) none E (m := arg11) (ld_full z2 _ hh)) $$ H11; iintro H11
  iapply (wp_load_owns 𝒱₀ (c : Thread nD τ) none E (m := arg9)) $$ H9; iintro H9
  iapply (wp_store_owns_eq 𝒱₀ (c : Thread nD τ) none E (m := arg9) (overlay_full z2 _ X9 _)) $$ H9; iintro H9
  iapply (wp_load_owns_eq 𝒱₀ (c : Thread nD τ) none E (m := arg4) (ld_full z2 _ X4)) $$ H4; iintro H4
  iapply (wp_load_owns_eq 𝒱₀ (c : Thread nD τ) none E (m := arg13) (ld_full z2 _ acc)) $$ H13; iintro H13
  iapply (wp_load_owns_eq 𝒱₀ (c : Thread nD τ) none E (m := arg5) (ld_full z2 _ X5)) $$ H5; iintro H5
  iapply (wp_load_owns 𝒱₀ (c : Thread nD τ) none E (m := arg13)) $$ H13; iintro H13
  iapply (wp_store_owns_eq 𝒱₀ (c : Thread nD τ) none E (m := arg13) (overlay_full z2 _ acc _)) $$ H13; iintro H13
  iapply (wp_load_owns_eq 𝒱₀ (c : Thread nD τ) none E (m := arg14)
    (ld_one1 (α := Elt F) (e := .i32) (heads ids 256) (i 0) (k0_off5_eq i) _)) $$ H14; iintro H14
  iapply (wp_call_spec 𝒱₀ (c : Thread nD τ) none E (spec c i arg1 arg9 arg12 arg15 ids tab 256 (k0_pay2 X3 (halfA X2) (halfB X2) hh)) 256
    (fun u hu => nomatch hu) (spec_le c i arg1 harg1 arg9 harg9 arg12 harg12 arg15 harg15 ids tab E 256 (Nat.le_refl _) 256 (Nat.le_refl _) _))
  rw [spec_apply]; unfold held
  isplitl [H1 H9 H12 H15]
  · isplitl [H1]; · iexact H1
    isplitl [H9]; · iexact H9
    isplitl [H12]; · iexact H12
    iexact H15
  iintro %r ⟨H1, H9, H12, H15⟩
  rw [wp_ret]; imodintro
  iapply Hk
  isplitl [H1]; · iexact H1
  isplitl [H2]; · iexact H2
  isplitl [H3]; · iexact H3
  isplitl [H4]; · iexact H4
  isplitl [H5]; · iexact H5
  isplitl [H9]; · iexact H9
  isplitl [H11]; · iexact H11
  isplitl [H12]; · iexact H12
  isplitl [H13]; · iexact H13
  isplitl [H14]; · iexact H14
  iexact H15

theorem part3_wp (E : Set ℕ)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (hh : S256x896.Idx → Elt F .bf16) (acc : S256x896.Idx → Elt F .f32) (Q : Vec F S256x896 .f32 → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg9 fullShare X9
        ∗ owns (c : Thread nD τ) arg11 fullShare hh
        ∗ owns (c : Thread nD τ) arg13 fullShare acc
        ∗ ((owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg9 fullShare (put9 X9 (k0_pay18 (cut3 X3) (cutA X2) (cutB X2) hh))
          ∗ owns (c : Thread nD τ) arg11 fullShare hh
          ∗ owns (c : Thread nD τ) arg13 fullShare (k0_pay19 (cut3 X3) (cutA X2) (cutB X2) (cut4 X4) acc (cut5 X5))) -∗ Q (k0_pay19 (cut3 X3) (cutA X2) (cutB X2) (cut4 X4) acc (cut5 X5))))
      ⊢ wp frame (wpE (defs₀ (F := F)) 𝒱₀ (c : Thread nD τ) none) E (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  rw [k0_part3_eq_skeleton]; unfold k0_part3_skel
  simp only [Prog.lift, Prog.bind_op, Prog.bind_ret, Prog.pure_eq_ret]
  iintro ⟨H2, H3, H4, H5, H9, H11, H13, Hk⟩
  iapply (wp_load_owns 𝒱₀ (c : Thread nD τ) none E (m := arg3)) $$ H3; iintro H3
  iapply (wp_load_owns 𝒱₀ (c : Thread nD τ) none E (m := arg2)) $$ H2; iintro H2
  iapply (wp_load_owns 𝒱₀ (c : Thread nD τ) none E (m := arg2)) $$ H2; iintro H2
  iapply (wp_load_owns_eq 𝒱₀ (c : Thread nD τ) none E (m := arg11) (ld_full z2 _ hh)) $$ H11; iintro H11
  iapply (wp_load_owns 𝒱₀ (c : Thread nD τ) none E (m := arg9)) $$ H9; iintro H9
  iapply (wp_store_owns 𝒱₀ (c : Thread nD τ) none E (m := arg9)) $$ H9; iintro H9
  iapply (wp_load_owns 𝒱₀ (c : Thread nD τ) none E (m := arg4)) $$ H4; iintro H4
  iapply (wp_load_owns_eq 𝒱₀ (c : Thread nD τ) none E (m := arg13) (ld_full z2 _ acc)) $$ H13; iintro H13
  iapply (wp_load_owns 𝒱₀ (c : Thread nD τ) none E (m := arg5)) $$ H5; iintro H5
  iapply (wp_load_owns 𝒱₀ (c : Thread nD τ) none E (m := arg13)) $$ H13; iintro H13
  iapply (wp_store_owns_eq 𝒱₀ (c : Thread nD τ) none E (m := arg13) (overlay_full z2 _ acc _)) $$ H13; iintro H13
  iapply (wp_load_owns_eq 𝒱₀ (c : Thread nD τ) none E (m := arg13) (ld_full z2 _ _)) $$ H13; iintro H13
  rw [wp_ret]; imodintro
  iapply Hk
  isplitl [H2]; · iexact H2
  isplitl [H3]; · iexact H3
  isplitl [H4]; · iexact H4
  isplitl [H5]; · iexact H5
  isplitl [H9]; · iexact H9
  isplitl [H11]; · iexact H11
  iexact H13

/-- The last point: only the tile's first 384 rows exist, and the first result is stored. -/
theorem body_last (E : Set ℕ) (h74 : (i 0).val = 74)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (X10 : S1x256x896.Idx → Elt F .bf16) (hh : S256x896.Idx → Elt F .bf16) (tab acc : S256x896.Idx → Elt F .f32) (Q : PUnit → sProp 𝕄) :
    iprop(owns (c : Thread nD τ) arg1 fullShare ids
        ∗ owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg9 fullShare X9
        ∗ owns (c : Thread nD τ) arg10 fullShare X10
        ∗ owns (c : Thread nD τ) arg11 fullShare hh
        ∗ owns (c : Thread nD τ) arg12 fullShare tab
        ∗ owns (c : Thread nD τ) arg13 fullShare acc
        ∗ owns (c : Thread nD τ) arg14 fullShare (heads ids 256)
        ∗ owns (c : Thread nD τ) arg15 fullShare (links ids)
        ∗ ((owns (c : Thread nD τ) arg1 fullShare ids
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg9 fullShare (fold (FloatOps.addf (F := F) (φ := .f32)) ids tab (i 0).val 256 (put9 X9 (k0_pay18 (cut3 X3) (cutA X2) (cutB X2) hh)))
          ∗ owns (c : Thread nD τ) arg10 fullShare (k0_pay4 (k0_pay19 (cut3 X3) (cutA X2) (cutB X2) (cut4 X4) acc (cut5 X5)))
          ∗ owns (c : Thread nD τ) arg11 fullShare hh
          ∗ owns (c : Thread nD τ) arg12 fullShare tab
          ∗ owns (c : Thread nD τ) arg13 fullShare (k0_pay19 (cut3 X3) (cutA X2) (cutB X2) (cut4 X4) acc (cut5 X5))
          ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E (cc0_tied_head_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have c1 : ¬ k0_cond1 i = 1#1 := fun h => absurd ((cond1_iff i).mp h) (by omega)
  have c2 : ¬ _ := fun h => absurd ((cond2_iff i).mp h) (by omega)
  have c3 := (cond3_iff i).mpr h74
  rw [cc0_tied_head_bwd_eq_skeleton]; unfold cc0_tied_head_bwd_skel
  rw [dif_neg c1]
  simp only [dif_pos c3, dif_neg c2, smemLoad, smemLoadElt, Prog.lift, Prog.bind_op, Prog.bind_ret, Prog.pure_eq_ret, bind_assoc]
  rw [wp_bind]
  iintro ⟨H1, H2, H3, H4, H5, H9, H10, H11, H12, H13, H14, H15, Hk⟩
  iapply (part3_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 E X2 X3 X4 X5 X9 hh acc)
  isplitl [H2]; · iexact H2
  isplitl [H3]; · iexact H3
  isplitl [H4]; · iexact H4
  isplitl [H5]; · iexact H5
  isplitl [H9]; · iexact H9
  isplitl [H11]; · iexact H11
  isplitl [H13]; · iexact H13
  iintro ⟨H2, H3, H4, H5, H9, H11, H13⟩
  iapply (wp_load_owns 𝒱₀ (c : Thread nD τ) none E (m := arg10)) $$ H10; iintro H10
  iapply (wp_store_owns_eq 𝒱₀ (c : Thread nD τ) none E (m := arg10) (overlay_full z3 _ X10 _)) $$ H10; iintro H10
  iapply (wp_load_owns_eq 𝒱₀ (c : Thread nD τ) none E (m := arg14)
    (ld_one1 (α := Elt F) (e := .i32) (heads ids 256) (i 0) (k0_off5_eq i) _)) $$ H14; iintro H14
  iapply (wp_call_spec 𝒱₀ (c : Thread nD τ) none E (spec c i arg1 arg9 arg12 arg15 ids tab 256 (put9 X9 (k0_pay18 (cut3 X3) (cutA X2) (cutB X2) hh))) 256
    (fun u hu => nomatch hu) (spec_le c i arg1 harg1 arg9 harg9 arg12 harg12 arg15 harg15 ids tab E 256 (Nat.le_refl _) 256 (Nat.le_refl _) _))
  rw [spec_apply]; unfold held
  isplitl [H1 H9 H12 H15]
  · isplitl [H1]; · iexact H1
    isplitl [H9]; · iexact H9
    isplitl [H12]; · iexact H12
    iexact H15
  iintro %r ⟨H1, H9, H12, H15⟩
  rw [wp_ret]; imodintro
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  iexact H15

/-- The first point: it prepares the scratch buffers, then does what every tile does. -/
theorem body_first (E : Set ℕ) (h0 : (i 0).val = 0) (hids : ∀ t, row ids t < 151936)
    (X2 : S1x256x2048.Idx → Elt F .fp8e5m2) (X3 : S1x2x2048.Idx → Elt F .f32) (X4 : S1x2048.Idx → Elt F .f32) (X5 : S2048x896.Idx → Elt F .i8)
    (X9 : S2048x896.Idx → Elt F .f32)
    (h : S1x256x896.Idx → Elt F .fp8e4m3) (hs : S1x256.Idx → Elt F .f32) (demb : S1x256x896.Idx → Elt F .bf16)
    (X11 : S256x896.Idx → Elt F .bf16) (X12 X13 : S256x896.Idx → Elt F .f32) (X14 : S75.Idx → BitVec 32) (X15 : S256.Idx → BitVec 32)
    (Q : PUnit → sProp 𝕄) :
    iprop(owns (c : Thread nD τ) arg1 fullShare ids
        ∗ owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare h
        ∗ owns (c : Thread nD τ) arg7 fullShare hs
        ∗ owns (c : Thread nD τ) arg8 fullShare demb
        ∗ owns (c : Thread nD τ) arg9 fullShare X9
        ∗ owns (c : Thread nD τ) arg11 fullShare X11
        ∗ owns (c : Thread nD τ) arg12 fullShare X12
        ∗ owns (c : Thread nD τ) arg13 fullShare X13
        ∗ owns (c : Thread nD τ) arg14 fullShare X14
        ∗ owns (c : Thread nD τ) arg15 fullShare X15
        ∗ ((owns (c : Thread nD τ) arg1 fullShare ids
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare h
          ∗ owns (c : Thread nD τ) arg7 fullShare hs
          ∗ owns (c : Thread nD τ) arg8 fullShare demb
          ∗ owns (c : Thread nD τ) arg9 fullShare (fold (FloatOps.addf (F := F) (φ := .f32)) ids (k0_pay7 demb) (i 0).val 256 (k0_pay2 X3 (halfA X2) (halfB X2) (hhOf h hs)))
          ∗ owns (c : Thread nD τ) arg11 fullShare (hhOf h hs)
          ∗ owns (c : Thread nD τ) arg12 fullShare (k0_pay7 demb)
          ∗ owns (c : Thread nD τ) arg13 fullShare (k0_pay3 X3 (halfA X2) (halfB X2) X4 (k0_pay6 (F := F)) X5)
          ∗ owns (c : Thread nD τ) arg14 fullShare (heads ids 256)
          ∗ owns (c : Thread nD τ) arg15 fullShare (links ids)) -∗ Q ⟨⟩))
      ⊢ wp frame (wpE (defs₀ (F := F)) 𝒱₀ (c : Thread nD τ) none) E (cc0_tied_head_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have c1 := (cond1_iff i).mpr h0
  have c2 := (cond2_iff i).mpr (by omega)
  have c3 : ¬ k0_cond3 i = 1#1 := fun h => absurd ((cond3_iff i).mp h) (by omega)
  rw [cc0_tied_head_bwd_eq_skeleton]; unfold cc0_tied_head_bwd_skel
  rw [dif_pos c1]
  simp only [dif_neg c3, dif_pos c2, smemLoad, smemLoadElt, Prog.lift, Prog.bind_op, Prog.bind_ret, Prog.pure_eq_ret, bind_assoc]
  rw [wp_bind]
  iintro ⟨H1, H2, H3, H4, H5, H6, H7, H8, H9, H11, H12, H13, H14, H15, Hk⟩
  iapply (part1_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 E h hs demb X11 X12 X13)
  isplitl [H6]; · iexact H6
  isplitl [H7]; · iexact H7
  isplitl [H8]; · iexact H8
  isplitl [H11]; · iexact H11
  isplitl [H12]; · iexact H12
  isplitl [H13]; · iexact H13
  iintro ⟨H6, H7, H8, H11, H12, H13⟩
  simp only
  rw [wp_bind]
  iapply (part2_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 E h hs X11)
  isplitl [H6]; · iexact H6
  isplitl [H11]; · iexact H11
  iintro ⟨H6, H11⟩
  rw [wp_bind]
  iapply (loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 ids E c1 X14)
  isplitl [H14]; · iexact H14
  iintro H14
  rw [wp_bind]
  iapply (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 ids E c1 hids X15)
  isplitl [H1]; · iexact H1
  isplitl [H14]; · iexact H14
  isplitl [H15]; · iexact H15
  iintro ⟨H1, H14, H15⟩
  iapply (wp_load_owns_eq 𝒱₀ (c : Thread nD τ) none E (m := arg3) (ld_full z3 _ X3)) $$ H3; iintro H3
  iapply (wp_load_owns 𝒱₀ (c : Thread nD τ) none E (m := arg2)) $$ H2; iintro H2
  iapply (wp_load_owns 𝒱₀ (c : Thread nD τ) none E (m := arg2)) $$ H2; iintro H2
  iapply (wp_load_owns_eq 𝒱₀ (c : Thread nD τ) none E (m := arg11) (ld_full z2 _ (hhOf h hs))) $$ H11; iintro H11
  iapply (wp_load_owns 𝒱₀ (c : Thread nD τ) none E (m := arg9)) $$ H9; iintro H9
  iapply (wp_store_owns_eq 𝒱₀ (c : Thread nD τ) none E (m := arg9) (overlay_full z2 _ X9 _)) $$ H9; iintro H9
  iapply (wp_load_owns_eq 𝒱₀ (c : Thread nD τ) none E (m := arg4) (ld_full z2 _ X4)) $$ H4; iintro H4
  iapply (wp_load_owns_eq 𝒱₀ (c : Thread nD τ) none E (m := arg13) (ld_full z2 _ (k0_pay6 (F := F)))) $$ H13; iintro H13
  iapply (wp_load_owns_eq 𝒱₀ (c : Thread nD τ) none E (m := arg5) (ld_full z2 _ X5)) $$ H5; iintro H5
  iapply (wp_load_owns 𝒱₀ (c : Thread nD τ) none E (m := arg13)) $$ H13; iintro H13
  iapply (wp_store_owns_eq 𝒱₀ (c : Thread nD τ) none E (m := arg13) (overlay_full z2 _ (k0_pay6 (F := F)) _)) $$ H13; iintro H13
  iapply (wp_load_owns_eq 𝒱₀ (c : Thread nD τ) none E (m := arg14)
    (ld_one1 (α := Elt F) (e := .i32) (heads ids 256) (i 0) (k0_off5_eq i) _)) $$ H14; iintro H14
  iapply (wp_call_spec 𝒱₀ (c : Thread nD τ) none E (spec c i arg1 arg9 arg12 arg15 ids (k0_pay7 demb) 256 (k0_pay2 X3 (halfA X2) (halfB X2) (hhOf h hs))) 256
    (fun u hu => nomatch hu) (spec_le c i arg1 harg1 arg9 harg9 arg12 harg12 arg15 harg15 ids (k0_pay7 demb) E 256 (Nat.le_refl _) 256 (Nat.le_refl _) _))
  rw [spec_apply]; unfold held
  isplitl [H1 H9 H12 H15]
  · isplitl [H1]; · iexact H1
    isplitl [H9]; · iexact H9
    isplitl [H12]; · iexact H12
    iexact H15
  iintro %r ⟨H1, H9, H12, H15⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  iexact H15

end Tile

end Cert.Proof.KI

end
-- ==== Proof.KI.Data.lean ====
/-
  What the buffers hold between the points of the grid: the blocks the windows fetch, the sum that grows tile
  by tile, the tile each point writes.
-/
module

public import proofs.«01_k».proof.Proof.KI.Tile

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Own Cert.Link

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the kernel finds them: the launch contents, with the vocabulary scales reshaped to a row. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- The row numbers. -/
abbrev idsOf (c : Dev nD) : S1x256.Idx → BitVec 32 := V m c main_arg6

/-- Window 1's block at point `t`, the part inside the array, -/
def blk1 (c : Dev nD) (t : Fin grid0.N) : (win0_1.xblock (grid0.coords t)).Idx → Elt F .fp8e5m2 :=
  (win0_1.blk t).view.read (Elt F) (V m c main_arg0)
/-- and filled out with zeros past the array's end. -/
def tile1 (c : Dev nD) (t : Fin grid0.N) : S1x256x2048.Idx → Elt F .fp8e5m2 :=
  win0_1.fill (grid0.coords t) (fun _ => Scalar.ofBits .fp8e5m2 0#8) (blk1 m c t)
/-- Window 2's block at point `t`, the part inside the array, -/
def blk2 (c : Dev nD) (t : Fin grid0.N) : (win0_2.xblock (grid0.coords t)).Idx → Elt F .f32 :=
  (win0_2.blk t).view.read (Elt F) (V m c main_arg1)
/-- and filled out with zeros past the array's end. -/
def tile2 (c : Dev nD) (t : Fin grid0.N) : S1x2x2048.Idx → Elt F .f32 :=
  win0_2.fill (grid0.coords t) (fun _ => Scalar.ofBits .f32 0#32) (blk2 m c t)
/-- Window 3's block at point `t`, the part inside the array, -/
def blk3 (c : Dev nD) (t : Fin grid0.N) : (win0_3.xblock (grid0.coords t)).Idx → Elt F .f32 :=
  (win0_3.blk t).view.read (Elt F) (V m c main_v0)
/-- and filled out with zeros past the array's end. -/
def tile3 (c : Dev nD) (t : Fin grid0.N) : S1x2048.Idx → Elt F .f32 :=
  win0_3.fill (grid0.coords t) (fun _ => Scalar.ofBits .f32 0#32) (blk3 m c t)
/-- Window 4's block at point `t`, the part inside the array, -/
def blk4 (c : Dev nD) (t : Fin grid0.N) : (win0_4.xblock (grid0.coords t)).Idx → Elt F .i8 :=
  (win0_4.blk t).view.read (Elt F) (V m c main_arg4)
/-- and filled out with zeros past the array's end. -/
def tile4 (c : Dev nD) (t : Fin grid0.N) : S2048x896.Idx → Elt F .i8 :=
  win0_4.fill (grid0.coords t) (fun _ => 0#8) (blk4 m c t)

/-- The scaled hidden rows. -/
abbrev hhC (c : Dev nD) : S256x896.Idx → Elt F .bf16 := hhOf (V m c main_arg2) (V m c main_arg3)
/-- The rows the walk adds. -/
abbrev tabC (c : Dev nD) : S256x896.Idx → Elt F .f32 := k0_pay7 (V m c main_arg7)

/-- The first result's sum after the first `n` tiles. -/
def accAt (c : Dev nD) : ℕ → S256x896.Idx → Elt F .f32
  | 0 => k0_pay6
  | n + 1 =>
    if h : n < 74 then
      let t : Fin grid0.N := ⟨n, by rw [N_0]; omega⟩
      k0_pay3 (tile2 m c t) (halfA (tile1 m c t)) (halfB (tile1 m c t)) (tile3 m c t) (accAt c n) (tile4 m c t)
    else
      let t : Fin grid0.N := ⟨74, by rw [N_0]; omega⟩
      k0_pay19 (cut3 (tile2 m c t)) (cutA (tile1 m c t)) (cutB (tile1 m c t)) (cut4 (tile3 m c t)) (accAt c n) (cut5 (tile4 m c t))

/-- The product a tile of the second result starts from. -/
def deAt (c : Dev nD) (t : Fin grid0.N) : S2048x896.Idx → Elt F .f32 :=
  if t.val < 74 then k0_pay2 (tile2 m c t) (halfA (tile1 m c t)) (halfB (tile1 m c t)) (hhC m c)
  else put9 (fun _ => Scalar.ofBits .f32 0#32) (k0_pay18 (cut3 (tile2 m c t)) (cutA (tile1 m c t)) (cutB (tile1 m c t)) (hhC m c))

/-- The tile of the second result that point `t` leaves. -/
def outAt (c : Dev nD) (t : Fin grid0.N) : S2048x896.Idx → Elt F .f32 :=
  fold (FloatOps.addf (F := F) (φ := .f32)) (idsOf m c) (tabC m c) t.val 256 (deAt m c t)

/-- The five scratch buffers before point `n`: anything before the first one; after it the scaled hidden rows,
    the rows the walk adds, the sum so far and the two tables of the linked lists. -/
def scr (c : Dev nD) : ℕ → sProp 𝕄
  | 0 => iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f))
  | n + 1 => iprop(owns (c : Thread nD τ) (Memref.whole cc0_scratch0) fullShare (hhC m c)
      ∗ owns (c : Thread nD τ) (Memref.whole cc0_scratch1) fullShare (tabC m c)
      ∗ owns (c : Thread nD τ) (Memref.whole cc0_scratch2) fullShare (accAt m c (n + 1))
      ∗ owns (c : Thread nD τ) (Memref.whole cc0_scratch3) fullShare (heads (idsOf m c) 256)
      ∗ owns (c : Thread nD τ) (Memref.whole cc0_scratch4) fullShare (links (idsOf m c)))

/-- The proof data of the pipeline on one core. -/
def dats (_ : Fin 1) (c : Dev nD) : Dat τ (Elt F) Unit ℕ (UR sig nD τ) ℕ (cfg0 (F := F)) c where
  A w := V m c (Pipeline.arrRef spec0 w)
  after w t := match w with
    | ⟨0, _⟩ => idsOf m c
    | ⟨1, _⟩ => tile1 m c t
    | ⟨2, _⟩ => tile2 m c t
    | ⟨3, _⟩ => tile3 m c t
    | ⟨4, _⟩ => tile4 m c t
    | ⟨5, _⟩ => V m c main_arg2
    | ⟨6, _⟩ => V m c main_arg3
    | ⟨7, _⟩ => V m c main_arg7
    | ⟨8, _⟩ => outAt m c t
    | ⟨9, _⟩ => k0_pay4 (accAt m c 75)
  Φ t := scr m c t.val
  q _ := fullShare
  owed _ := 0

/-! What the body finds. -/

theorem before_1 (c : Dev nD) (t : Fin grid0.N) (d) :
    (dats m 0 c).before (1 : Fin 10) t d = win0_1.fill (grid0.coords t) d (blk1 m c t) :=
  ((dats m 0 c).before_fetched (1 : Fin 10) t (fetch0_1 (F := F) t) d).trans rfl
theorem before_2 (c : Dev nD) (t : Fin grid0.N) (d) :
    (dats m 0 c).before (2 : Fin 10) t d = win0_2.fill (grid0.coords t) d (blk2 m c t) :=
  ((dats m 0 c).before_fetched (2 : Fin 10) t (fetch0_2 (F := F) t) d).trans rfl
theorem before_3 (c : Dev nD) (t : Fin grid0.N) (d) :
    (dats m 0 c).before (3 : Fin 10) t d = win0_3.fill (grid0.coords t) d (blk3 m c t) :=
  ((dats m 0 c).before_fetched (3 : Fin 10) t (fetch0_3 (F := F) t) d).trans rfl
theorem before_4 (c : Dev nD) (t : Fin grid0.N) (d) :
    (dats m 0 c).before (4 : Fin 10) t d = win0_4.fill (grid0.coords t) d (blk4 m c t) :=
  ((dats m 0 c).before_fetched (4 : Fin 10) t (fetch0_4 (F := F) t) d).trans rfl
/-- Window 0's block is the whole array. -/
theorem whole_0 (c : Dev nD) (t : Fin grid0.N) : (dats m 0 c).blockOf (0 : Fin 10) t = V m c main_arg6 := by
  have h : ∀ a, win0_0.index t a = 0 := fun a =>
    (by decide +kernel : ∀ (i : grid0.Coords) a, cc0_transform_0 i a = 0) (grid0.coords t) a
  funext y
  change V m c main_arg6 ((win0_0.rect t).emb y) = V m c main_arg6 y
  refine congrArg _ (funext fun a => Fin.ext ?_)
  rw [Rect.emb_apply]
  change win0_0.index t a * win0_0.size a + 1 * (y a).val = (y a).val
  rw [h a]; omega
theorem before_0 (c : Dev nD) (t : Fin grid0.N) (d) : (dats m 0 c).before (0 : Fin 10) t d = V m c main_arg6 := by
  refine ((dats m 0 c).before_in_eq_fetched (0 : Fin 10) rfl (fun _ => rfl) (fun _ _ _ => rfl)
    (fun t => (whole_0 m c t).symm) t d).trans ?_
  exact whole_0 m c t
/-- Window 5's block is the whole array. -/
theorem whole_5 (c : Dev nD) (t : Fin grid0.N) : (dats m 0 c).blockOf (5 : Fin 10) t = V m c main_arg2 := by
  have h : ∀ a, win0_5.index t a = 0 := fun a =>
    (by decide +kernel : ∀ (i : grid0.Coords) a, cc0_transform_5 i a = 0) (grid0.coords t) a
  funext y
  change V m c main_arg2 ((win0_5.rect t).emb y) = V m c main_arg2 y
  refine congrArg _ (funext fun a => Fin.ext ?_)
  rw [Rect.emb_apply]
  change win0_5.index t a * win0_5.size a + 1 * (y a).val = (y a).val
  rw [h a]; omega
theorem before_5 (c : Dev nD) (t : Fin grid0.N) (d) : (dats m 0 c).before (5 : Fin 10) t d = V m c main_arg2 := by
  refine ((dats m 0 c).before_in_eq_fetched (5 : Fin 10) rfl (fun _ => rfl) (fun _ _ _ => rfl)
    (fun t => (whole_5 m c t).symm) t d).trans ?_
  exact whole_5 m c t
/-- Window 6's block is the whole array. -/
theorem whole_6 (c : Dev nD) (t : Fin grid0.N) : (dats m 0 c).blockOf (6 : Fin 10) t = V m c main_arg3 := by
  have h : ∀ a, win0_6.index t a = 0 := fun a =>
    (by decide +kernel : ∀ (i : grid0.Coords) a, cc0_transform_6 i a = 0) (grid0.coords t) a
  funext y
  change V m c main_arg3 ((win0_6.rect t).emb y) = V m c main_arg3 y
  refine congrArg _ (funext fun a => Fin.ext ?_)
  rw [Rect.emb_apply]
  change win0_6.index t a * win0_6.size a + 1 * (y a).val = (y a).val
  rw [h a]; omega
theorem before_6 (c : Dev nD) (t : Fin grid0.N) (d) : (dats m 0 c).before (6 : Fin 10) t d = V m c main_arg3 := by
  refine ((dats m 0 c).before_in_eq_fetched (6 : Fin 10) rfl (fun _ => rfl) (fun _ _ _ => rfl)
    (fun t => (whole_6 m c t).symm) t d).trans ?_
  exact whole_6 m c t
/-- Window 7's block is the whole array. -/
theorem whole_7 (c : Dev nD) (t : Fin grid0.N) : (dats m 0 c).blockOf (7 : Fin 10) t = V m c main_arg7 := by
  have h : ∀ a, win0_7.index t a = 0 := fun a =>
    (by decide +kernel : ∀ (i : grid0.Coords) a, cc0_transform_7 i a = 0) (grid0.coords t) a
  funext y
  change V m c main_arg7 ((win0_7.rect t).emb y) = V m c main_arg7 y
  refine congrArg _ (funext fun a => Fin.ext ?_)
  rw [Rect.emb_apply]
  change win0_7.index t a * win0_7.size a + 1 * (y a).val = (y a).val
  rw [h a]; omega
theorem before_7 (c : Dev nD) (t : Fin grid0.N) (d) : (dats m 0 c).before (7 : Fin 10) t d = V m c main_arg7 := by
  refine ((dats m 0 c).before_in_eq_fetched (7 : Fin 10) rfl (fun _ => rfl) (fun _ _ _ => rfl)
    (fun t => (whole_7 m c t).symm) t d).trans ?_
  exact whole_7 m c t
theorem before_8 (c : Dev nD) (t : Fin grid0.N) (d) : (dats m 0 c).before (8 : Fin 10) t d = d := by
  have hf : ((cfg0 (F := F)).win 8).fetch t = false := rfl
  by_cases h0 : t.val = 0
  · unfold Dat.before
    exact (if_neg (fun h => Bool.false_ne_true (hf.symm.trans h))).trans (if_pos h0)
  · exact ((dats m 0 c).before_of_pos (8 : Fin 10) t h0 hf d).trans (if_pos (flush0_8 _))

end Cert.Proof.KI

end
-- ==== Proof.KI.Body.lean ====
/-
  The body's obligation at every point of the grid.
-/
module

public import proofs.«01_k».proof.Proof.KI.Data

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Own Cert.Link

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Before the last point no block reaches past its array: what was in the buffer does not matter. -/

theorem xsize_1 : ∀ i : grid0.Coords, (i 0).val < 74 → ∀ a, win0_1.xsize i a = S1x256x2048.size a := by decide +kernel
theorem fill_1 {α : Type} (i : grid0.Coords) (h : (i 0).val < 74) (d d' : S1x256x2048.Idx → α) (g : (win0_1.xblock i).Idx → α) :
    win0_1.fill i d g = win0_1.fill i d' g := by
  funext j
  have hm : win0_1.moved i j = true := (win0_1.moved_iff i j).mpr fun a => by
    rw [xsize_1 i h a]; exact (j a).isLt
  unfold Window.fill; rw [dif_pos hm, dif_pos hm]
theorem xsize_2 : ∀ i : grid0.Coords, (i 0).val < 74 → ∀ a, win0_2.xsize i a = S1x2x2048.size a := by decide +kernel
theorem fill_2 {α : Type} (i : grid0.Coords) (h : (i 0).val < 74) (d d' : S1x2x2048.Idx → α) (g : (win0_2.xblock i).Idx → α) :
    win0_2.fill i d g = win0_2.fill i d' g := by
  funext j
  have hm : win0_2.moved i j = true := (win0_2.moved_iff i j).mpr fun a => by
    rw [xsize_2 i h a]; exact (j a).isLt
  unfold Window.fill; rw [dif_pos hm, dif_pos hm]
theorem xsize_3 : ∀ i : grid0.Coords, (i 0).val < 74 → ∀ a, win0_3.xsize i a = S1x2048.size a := by decide +kernel
theorem fill_3 {α : Type} (i : grid0.Coords) (h : (i 0).val < 74) (d d' : S1x2048.Idx → α) (g : (win0_3.xblock i).Idx → α) :
    win0_3.fill i d g = win0_3.fill i d' g := by
  funext j
  have hm : win0_3.moved i j = true := (win0_3.moved_iff i j).mpr fun a => by
    rw [xsize_3 i h a]; exact (j a).isLt
  unfold Window.fill; rw [dif_pos hm, dif_pos hm]
theorem xsize_4 : ∀ i : grid0.Coords, (i 0).val < 74 → ∀ a, win0_4.xsize i a = S2048x896.size a := by decide +kernel
theorem fill_4 {α : Type} (i : grid0.Coords) (h : (i 0).val < 74) (d d' : S2048x896.Idx → α) (g : (win0_4.xblock i).Idx → α) :
    win0_4.fill i d g = win0_4.fill i d' g := by
  funext j
  have hm : win0_4.moved i j = true := (win0_4.moved_iff i j).mpr fun a => by
    rw [xsize_4 i h a]; exact (j a).isLt
  unfold Window.fill; rw [dif_pos hm, dif_pos hm]

/-! At the last point the loads of the valid parts do not see what was in the buffer. -/

theorem fits_cutA : ∀ i : grid0.Coords, (i 0).val = 74 → ∀ a, (![0, 0, 0] : Fin _ → Nat) a + S1x128x384.size a ≤ win0_1.xsize i a := by decide +kernel
theorem fill_cutA (i : grid0.Coords) (h : (i 0).val = 74) (d d' : S1x256x2048.Idx → Elt F .fp8e5m2) (g : (win0_1.xblock i).Idx → Elt F .fp8e5m2) :
    cutA (F := F) (win0_1.fill i d g) = cutA (win0_1.fill i d' g) := by
  funext y
  have hm : win0_1.moved i ((Rect.unit (s := S1x256x2048) ![0, 0, 0] S1x128x384.size inb_S1x256x2048_S1x128x384_0_0_0).idx y) = true :=
    (win0_1.moved_iff i _).mpr fun a => by
      rw [Rect.idx_unit_val]
      exact Nat.lt_of_lt_of_le (Nat.add_lt_add_left (y a).isLt _) (fits_cutA i h a)
  show win0_1.fill i d g ((Rect.unit (s := S1x256x2048) ![0, 0, 0] S1x128x384.size inb_S1x256x2048_S1x128x384_0_0_0).idx y)
    = win0_1.fill i d' g ((Rect.unit (s := S1x256x2048) ![0, 0, 0] S1x128x384.size inb_S1x256x2048_S1x128x384_0_0_0).idx y)
  unfold Window.fill; rw [dif_pos hm, dif_pos hm]
theorem fits_cutB : ∀ i : grid0.Coords, (i 0).val = 74 → ∀ a, (![0, 128, 0] : Fin _ → Nat) a + S1x128x384.size a ≤ win0_1.xsize i a := by decide +kernel
theorem fill_cutB (i : grid0.Coords) (h : (i 0).val = 74) (d d' : S1x256x2048.Idx → Elt F .fp8e5m2) (g : (win0_1.xblock i).Idx → Elt F .fp8e5m2) :
    cutB (F := F) (win0_1.fill i d g) = cutB (win0_1.fill i d' g) := by
  funext y
  have hm : win0_1.moved i ((Rect.unit (s := S1x256x2048) ![0, 128, 0] S1x128x384.size inb_S1x256x2048_S1x128x384_0_128_0).idx y) = true :=
    (win0_1.moved_iff i _).mpr fun a => by
      rw [Rect.idx_unit_val]
      exact Nat.lt_of_lt_of_le (Nat.add_lt_add_left (y a).isLt _) (fits_cutB i h a)
  show win0_1.fill i d g ((Rect.unit (s := S1x256x2048) ![0, 128, 0] S1x128x384.size inb_S1x256x2048_S1x128x384_0_128_0).idx y)
    = win0_1.fill i d' g ((Rect.unit (s := S1x256x2048) ![0, 128, 0] S1x128x384.size inb_S1x256x2048_S1x128x384_0_128_0).idx y)
  unfold Window.fill; rw [dif_pos hm, dif_pos hm]
theorem fits_cut3 : ∀ i : grid0.Coords, (i 0).val = 74 → ∀ a, (![0, 0, 0] : Fin _ → Nat) a + S1x2x384.size a ≤ win0_2.xsize i a := by decide +kernel
theorem fill_cut3 (i : grid0.Coords) (h : (i 0).val = 74) (d d' : S1x2x2048.Idx → Elt F .f32) (g : (win0_2.xblock i).Idx → Elt F .f32) :
    cut3 (F := F) (win0_2.fill i d g) = cut3 (win0_2.fill i d' g) := by
  funext y
  have hm : win0_2.moved i ((Rect.unit (s := S1x2x2048) ![0, 0, 0] S1x2x384.size inb_S1x2x2048_S1x2x384_0_0_0).idx y) = true :=
    (win0_2.moved_iff i _).mpr fun a => by
      rw [Rect.idx_unit_val]
      exact Nat.lt_of_lt_of_le (Nat.add_lt_add_left (y a).isLt _) (fits_cut3 i h a)
  show win0_2.fill i d g ((Rect.unit (s := S1x2x2048) ![0, 0, 0] S1x2x384.size inb_S1x2x2048_S1x2x384_0_0_0).idx y)
    = win0_2.fill i d' g ((Rect.unit (s := S1x2x2048) ![0, 0, 0] S1x2x384.size inb_S1x2x2048_S1x2x384_0_0_0).idx y)
  unfold Window.fill; rw [dif_pos hm, dif_pos hm]
theorem fits_cut4 : ∀ i : grid0.Coords, (i 0).val = 74 → ∀ a, (![0, 0] : Fin _ → Nat) a + S1x384.size a ≤ win0_3.xsize i a := by decide +kernel
theorem fill_cut4 (i : grid0.Coords) (h : (i 0).val = 74) (d d' : S1x2048.Idx → Elt F .f32) (g : (win0_3.xblock i).Idx → Elt F .f32) :
    cut4 (F := F) (win0_3.fill i d g) = cut4 (win0_3.fill i d' g) := by
  funext y
  have hm : win0_3.moved i ((Rect.unit (s := S1x2048) ![0, 0] S1x384.size inb_S1x2048_S1x384_0_0).idx y) = true :=
    (win0_3.moved_iff i _).mpr fun a => by
      rw [Rect.idx_unit_val]
      exact Nat.lt_of_lt_of_le (Nat.add_lt_add_left (y a).isLt _) (fits_cut4 i h a)
  show win0_3.fill i d g ((Rect.unit (s := S1x2048) ![0, 0] S1x384.size inb_S1x2048_S1x384_0_0).idx y)
    = win0_3.fill i d' g ((Rect.unit (s := S1x2048) ![0, 0] S1x384.size inb_S1x2048_S1x384_0_0).idx y)
  unfold Window.fill; rw [dif_pos hm, dif_pos hm]
theorem fits_cut5 : ∀ i : grid0.Coords, (i 0).val = 74 → ∀ a, (![0, 0] : Fin _ → Nat) a + S384x896.size a ≤ win0_4.xsize i a := by decide +kernel
theorem fill_cut5 (i : grid0.Coords) (h : (i 0).val = 74) (d d' : S2048x896.Idx → Elt F .i8) (g : (win0_4.xblock i).Idx → Elt F .i8) :
    cut5 (F := F) (win0_4.fill i d g) = cut5 (win0_4.fill i d' g) := by
  funext y
  have hm : win0_4.moved i ((Rect.unit (s := S2048x896) ![0, 0] S384x896.size inb_S2048x896_S384x896_0_0).idx y) = true :=
    (win0_4.moved_iff i _).mpr fun a => by
      rw [Rect.idx_unit_val]
      exact Nat.lt_of_lt_of_le (Nat.add_lt_add_left (y a).isLt _) (fits_cut5 i h a)
  show win0_4.fill i d g ((Rect.unit (s := S2048x896) ![0, 0] S384x896.size inb_S2048x896_S384x896_0_0).idx y)
    = win0_4.fill i d' g ((Rect.unit (s := S2048x896) ![0, 0] S384x896.size inb_S2048x896_S384x896_0_0).idx y)
  unfold Window.fill; rw [dif_pos hm, dif_pos hm]

theorem cut8_put9 (i : grid0.Coords) (h : (i 0).val = 74) (X X' : S2048x896.Idx → Elt F .f32) (w : FVec F S384x896 .f32)
    (ids : S1x256.Idx → BitVec 32) (tab : S256x896.Idx → Elt F .f32) :
    win0_8.cut i (fold (FloatOps.addf (F := F) (φ := .f32)) ids tab 74 256 (put9 X w))
      = win0_8.cut i (fold (FloatOps.addf (F := F) (φ := .f32)) ids tab 74 256 (put9 X' w)) := by
  funext j
  apply fold_congr
  have h0 : (j 0).val < 384 := Nat.lt_of_lt_of_le (j 0).isLt
    ((by decide +kernel : ∀ i : grid0.Coords, (i 0).val = 74 → win0_8.xsize i 0 ≤ 384) i h)
  have h1 : (j 1).val < 896 := Nat.lt_of_lt_of_le (j 1).isLt
    ((by decide +kernel : ∀ i : grid0.Coords, win0_8.xsize i 1 ≤ 896) i)
  have hy : ∀ a : Fin 2, (win0_8.xinj i j a).val
      = (![0, 0] : Fin 2 → Nat) a + ((ix2 (⟨(j 0).val, h0⟩ : Fin 384) (⟨(j 1).val, h1⟩ : Fin 896) : S384x896.Idx) a).val := fun a => by
    match a with
    | ⟨0, _⟩ => exact (Nat.zero_add _).symm
    | ⟨1, _⟩ => exact (Nat.zero_add _).symm
  exact (overlay_unit_of_mem _ X w _ _ hy).trans (overlay_unit_of_mem _ X' w _ _ hy).symm

variable (m : (ℓ : Loc nD τ sig) → Buf (Elt F) ℓ) (ρ : Dev nD → PrngReg)

theorem coords_val (t : Fin grid0.N) : (grid0.coords t 0).val = t.val :=
  (by decide +kernel : ∀ t : Fin grid0.N, (grid0.coords t 0).val = t.val) t

theorem scr_zero (c : Dev nD) : scr m c 0
    = iprop((∃ f : Buf (Elt F) ((c : Thread nD τ).loc cc0_scratch0), owns (c : Thread nD τ) (Memref.whole cc0_scratch0) fullShare f)
      ∗ (∃ f : Buf (Elt F) ((c : Thread nD τ).loc cc0_scratch1), owns (c : Thread nD τ) (Memref.whole cc0_scratch1) fullShare f)
      ∗ (∃ f : Buf (Elt F) ((c : Thread nD τ).loc cc0_scratch2), owns (c : Thread nD τ) (Memref.whole cc0_scratch2) fullShare f)
      ∗ (∃ f : Buf (Elt F) ((c : Thread nD τ).loc cc0_scratch3), owns (c : Thread nD τ) (Memref.whole cc0_scratch3) fullShare f)
      ∗ (∃ f : Buf (Elt F) ((c : Thread nD τ).loc cc0_scratch4), owns (c : Thread nD τ) (Memref.whole cc0_scratch4) fullShare f)) := by
  unfold scr; simp only [owns_whole]

theorem scr_succ (c : Dev nD) (n : ℕ) : scr m c (n + 1)
    = iprop(owns (c : Thread nD τ) (Memref.whole cc0_scratch0) fullShare (hhC m c)
      ∗ owns (c : Thread nD τ) (Memref.whole cc0_scratch1) fullShare (tabC m c)
      ∗ owns (c : Thread nD τ) (Memref.whole cc0_scratch2) fullShare (accAt m c (n + 1))
      ∗ owns (c : Thread nD τ) (Memref.whole cc0_scratch3) fullShare (heads (idsOf m c) 256)
      ∗ owns (c : Thread nD τ) (Memref.whole cc0_scratch4) fullShare (links (idsOf m c))) := rfl

theorem scr_pos (c : Dev nD) (n : ℕ) (h : n ≠ 0) : scr m c n
    = iprop(owns (c : Thread nD τ) (Memref.whole cc0_scratch0) fullShare (hhC m c)
      ∗ owns (c : Thread nD τ) (Memref.whole cc0_scratch1) fullShare (tabC m c)
      ∗ owns (c : Thread nD τ) (Memref.whole cc0_scratch2) fullShare (accAt m c n)
      ∗ owns (c : Thread nD τ) (Memref.whole cc0_scratch3) fullShare (heads (idsOf m c) 256)
      ∗ owns (c : Thread nD τ) (Memref.whole cc0_scratch4) fullShare (links (idsOf m c))) := by
  obtain ⟨k, rfl⟩ := Nat.exists_eq_succ_of_ne_zero h
  exact scr_succ m c k

theorem accAt_mid (c : Dev nD) (t : Fin grid0.N) (h : t.val < 74) :
    accAt m c (t.val + 1) = k0_pay3 (tile2 m c t) (halfA (tile1 m c t)) (halfB (tile1 m c t)) (tile3 m c t) (accAt m c t.val) (tile4 m c t) := by
  rw [accAt, dif_pos h]

theorem accAt_last (c : Dev nD) (t : Fin grid0.N) (h : t.val = 74) :
    accAt m c (t.val + 1) = k0_pay19 (cut3 (tile2 m c t)) (cutA (tile1 m c t)) (cutB (tile1 m c t)) (cut4 (tile3 m c t)) (accAt m c t.val) (cut5 (tile4 m c t)) := by
  have e : (⟨74, by rw [N_0]; omega⟩ : Fin grid0.N) = t := Fin.ext h.symm
  rw [accAt, dif_neg (by omega), e]

theorem outAt_mid (c : Dev nD) (t : Fin grid0.N) (h : t.val < 74) :
    outAt m c t = fold (FloatOps.addf (F := F) (φ := .f32)) (idsOf m c) (tabC m c) (grid0.coords t 0).val 256
      (k0_pay2 (tile2 m c t) (halfA (tile1 m c t)) (halfB (tile1 m c t)) (hhC m c)) := by
  unfold outAt deAt; rw [if_pos h, coords_val]

theorem idle9 (t : Fin grid0.N) (h : t.val < 74) : idle0 9 (grid0.coords t) = true :=
  (by decide +kernel : ∀ t : Fin grid0.N, t.val < 74 → idle0 9 (grid0.coords t) = true) t h
theorem live9 (t : Fin grid0.N) (h : t.val = 74) : idle0 9 (grid0.coords t) = false :=
  (by decide +kernel : ∀ t : Fin grid0.N, t.val = 74 → idle0 9 (grid0.coords t) = false) t h
theorem flush9 (t : Fin grid0.N) (h : t.val < 74) : win0_9.flush t = false := by
  rw [← Bool.not_eq_true]
  intro hf
  have := ((Pipeline.Window.flush_const win0_9 rfl (fun _ _ => rfl) (n := 75) (by decide) rfl t : win0_9.flush t = true ↔ t.val % 75 = 74)).mp hf
  omega

theorem leaves9_idle (c : Dev nD) (t : Fin grid0.N) (h : t.val < 74) : (dats m 0 c).leaves (9 : Fin 10) t
    = iprop(∃ d, owns (c : Thread nD τ) (((cfg0 (F := F)).win 9).stage (cfg0.slots t 9)) fullShare ((dats m 0 c).before (9 : Fin 10) t d)) := by
  unfold Dat.leaves
  split
  · split
    · rfl
    · rename_i hc; exact absurd (hc.symm.trans (flush9 t h)) (by decide)
  · rename_i hc; exact absurd (hc.symm.trans (idle9 t h)) (by decide)
theorem leaves9_live (c : Dev nD) (t : Fin grid0.N) (h : t.val = 74) : (dats m 0 c).leaves (9 : Fin 10) t
    = owns (c : Thread nD τ) (((cfg0 (F := F)).win 9).stage (cfg0.slots t 9)) fullShare (k0_pay4 (accAt m c 75)) := by
  unfold Dat.leaves
  split
  · rename_i hc; exact absurd (hc.symm.trans (live9 t h)) (by decide)
  · rfl

/-- The obligation at one point. -/
abbrev Obl (c : Dev nD) (t : Fin grid0.N) : Prop :=
    iprop((dats m 0 c).Φ t.castSucc ∗ (dats m 0 c).owesAt () t.castSucc
        ∗ bigSep Finset.univ fun w : Fin 10 => iprop(∃ d, owns (c : Thread nD τ) (((cfg0 (F := F)).win w).stage (cfg0.slots t w)) fullShare ((dats m 0 c).before w t d)))
      ⊢ wp frame (wpE (defs₀ (F := F)) 𝒱₀ (c : Thread nD τ) none) Set.univ (bodyAt0 t) fun _ =>
          iprop((dats m 0 c).Φ t.succ ∗ (dats m 0 c).owesAt () t.succ
            ∗ bigSep Finset.univ fun w : Fin 10 => (dats m 0 c).leaves w t)

/-- The obligation at the first point. -/
theorem obl_first (c : Dev nD) (hids : ∀ t, row (idsOf m c) t < 151936) (t : Fin grid0.N) (h : t.val = 0) : Obl m c t := by
  unfold Obl
  rw [bigSep_W0, bigSep_W0]
  simp only
  rw [show (dats m 0 c).Φ t.castSucc = scr m c t.val from rfl, show (dats m 0 c).Φ t.succ = scr m c (t.val + 1) from rfl,
    show (dats m 0 c).owesAt () t.succ = (dats m 0 c).owesAt () t.castSucc from rfl]
  have hi := coords_val t
  have hlt : (grid0.coords t 0).val < 74 := by omega
  rw [h, scr_zero, scr_succ]
  iintro ⟨⟨⟨%f1, H11⟩, ⟨%f2, H12⟩, ⟨%f3, H13⟩, ⟨%f4, H14⟩, ⟨%f5, H15⟩⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_0 m c t d0]
  rw [before_1 m c t d1]
  rw [before_2 m c t d2]
  rw [before_3 m c t d3]
  rw [before_4 m c t d4]
  rw [before_5 m c t d5]
  rw [before_6 m c t d6]
  rw [before_7 m c t d7]
  rw [before_8 m c t d8]
  rw [show win0_1.fill (grid0.coords t) d1 (blk1 m c t) = tile1 m c t from fill_1 (grid0.coords t) hlt _ _ _]
  rw [show win0_2.fill (grid0.coords t) d2 (blk2 m c t) = tile2 m c t from fill_2 (grid0.coords t) hlt _ _ _]
  rw [show win0_3.fill (grid0.coords t) d3 (blk3 m c t) = tile3 m c t from fill_3 (grid0.coords t) hlt _ _ _]
  rw [show win0_4.fill (grid0.coords t) d4 (blk4 m c t) = tile4 m c t from fill_4 (grid0.coords t) hlt _ _ _]
  iapply (body_first c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (idsOf m c) Set.univ (by omega) hids (tile1 m c t) (tile2 m c t) (tile3 m c t) (tile4 m c t) d8 (V m c main_arg2) (V m c main_arg3) (V m c main_arg7) f1 f2 f3 f4 f5)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [H11]; · iexact H11
  isplitl [H12]; · iexact H12
  isplitl [H13]; · iexact H13
  isplitl [H14]; · iexact H14
  isplitl [H15]; · iexact H15
  iintro ⟨W0, W1, W2, W3, W4, W5, W6, W7, W8, H11, H12, H13, H14, H15⟩
  rw [show k0_pay3 (tile2 m c t) (halfA (tile1 m c t)) (halfB (tile1 m c t)) (tile3 m c t) (k0_pay6 (F := F)) (tile4 m c t) = accAt m c (0 + 1) from by
    rw [show accAt m c (0 + 1) = accAt m c (t.val + 1) from by rw [h], accAt_mid m c t (by omega), h]; rfl]
  rw [← outAt_mid m c t (by omega)]
  isplitl [H11 H12 H13 H14 H15]
  · isplitl [H11]; · iexact H11
    isplitl [H12]; · iexact H12
    isplitl [H13]; · iexact H13
    isplitl [H14]; · iexact H14
    iexact H15
  isplitl [Ho]; · iexact Ho
  isplitl [W0]; · iexact W0
  isplitl [W1]
  · iexists d1
    change _ ⊢ owns (c : Thread nD τ) (win0_1.stage (cfg0.slots t 1)) fullShare (win0_1.fill (grid0.coords t) d1 (win0_1.cut (grid0.coords t) (tile1 m c t)))
    rw [show win0_1.cut (grid0.coords t) (tile1 m c t) = blk1 m c t from win0_1.cut_fill _ _ _]
    rw [show win0_1.fill (grid0.coords t) d1 (blk1 m c t) = tile1 m c t from fill_1 (grid0.coords t) hlt _ _ _]
    try iexact W1
  isplitl [W2]
  · iexists d2
    change _ ⊢ owns (c : Thread nD τ) (win0_2.stage (cfg0.slots t 2)) fullShare (win0_2.fill (grid0.coords t) d2 (win0_2.cut (grid0.coords t) (tile2 m c t)))
    rw [show win0_2.cut (grid0.coords t) (tile2 m c t) = blk2 m c t from win0_2.cut_fill _ _ _]
    rw [show win0_2.fill (grid0.coords t) d2 (blk2 m c t) = tile2 m c t from fill_2 (grid0.coords t) hlt _ _ _]
    try iexact W2
  isplitl [W3]
  · iexists d3
    change _ ⊢ owns (c : Thread nD τ) (win0_3.stage (cfg0.slots t 3)) fullShare (win0_3.fill (grid0.coords t) d3 (win0_3.cut (grid0.coords t) (tile3 m c t)))
    rw [show win0_3.cut (grid0.coords t) (tile3 m c t) = blk3 m c t from win0_3.cut_fill _ _ _]
    rw [show win0_3.fill (grid0.coords t) d3 (blk3 m c t) = tile3 m c t from fill_3 (grid0.coords t) hlt _ _ _]
    try iexact W3
  isplitl [W4]
  · iexists d4
    change _ ⊢ owns (c : Thread nD τ) (win0_4.stage (cfg0.slots t 4)) fullShare (win0_4.fill (grid0.coords t) d4 (win0_4.cut (grid0.coords t) (tile4 m c t)))
    rw [show win0_4.cut (grid0.coords t) (tile4 m c t) = blk4 m c t from win0_4.cut_fill _ _ _]
    rw [show win0_4.fill (grid0.coords t) d4 (blk4 m c t) = tile4 m c t from fill_4 (grid0.coords t) hlt _ _ _]
    try iexact W4
  isplitl [W5]; · iexact W5
  isplitl [W6]; · iexact W6
  isplitl [W7]; · iexact W7
  isplitl [W8]
  · iexists (outAt m c t)
    change _ ⊢ owns (c : Thread nD τ) (win0_8.stage (cfg0.slots t 8)) fullShare (win0_8.fill (grid0.coords t) (outAt m c t) (win0_8.cut (grid0.coords t) (outAt m c t)))
    rw [win0_8.fill_cut]; try iexact W8
  · rw [leaves9_idle m c t (by omega)]
    iexists d9; iexact W9

/-- The obligation at a point between the first and the last. -/
theorem obl_mid (c : Dev nD) (hids : ∀ t, row (idsOf m c) t < 151936) (t : Fin grid0.N) (h0 : t.val ≠ 0) (h : t.val < 74) : Obl m c t := by
  unfold Obl
  rw [bigSep_W0, bigSep_W0]
  simp only
  rw [show (dats m 0 c).Φ t.castSucc = scr m c t.val from rfl, show (dats m 0 c).Φ t.succ = scr m c (t.val + 1) from rfl,
    show (dats m 0 c).owesAt () t.succ = (dats m 0 c).owesAt () t.castSucc from rfl]
  have hi := coords_val t
  have hlt : (grid0.coords t 0).val < 74 := by omega
  rw [scr_pos m c t.val (by omega), scr_succ]
  iintro ⟨⟨H11, H12, H13, H14, H15⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_0 m c t d0]
  rw [before_1 m c t d1]
  rw [before_2 m c t d2]
  rw [before_3 m c t d3]
  rw [before_4 m c t d4]
  rw [before_5 m c t d5]
  rw [before_6 m c t d6]
  rw [before_7 m c t d7]
  rw [before_8 m c t d8]
  rw [show win0_1.fill (grid0.coords t) d1 (blk1 m c t) = tile1 m c t from fill_1 (grid0.coords t) hlt _ _ _]
  rw [show win0_2.fill (grid0.coords t) d2 (blk2 m c t) = tile2 m c t from fill_2 (grid0.coords t) hlt _ _ _]
  rw [show win0_3.fill (grid0.coords t) d3 (blk3 m c t) = tile3 m c t from fill_3 (grid0.coords t) hlt _ _ _]
  rw [show win0_4.fill (grid0.coords t) d4 (blk4 m c t) = tile4 m c t from fill_4 (grid0.coords t) hlt _ _ _]
  iapply (body_mid c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (idsOf m c) Set.univ (by omega) hlt (tile1 m c t) (tile2 m c t) (tile3 m c t) (tile4 m c t) d8 (hhC m c) (tabC m c) (accAt m c t.val))
  isplitl [W0]; · iexact W0
  isplitl [W1]; · iexact W1
  isplitl [W2]; · iexact W2
  isplitl [W3]; · iexact W3
  isplitl [W4]; · iexact W4
  isplitl [W8]; · iexact W8
  isplitl [H11]; · iexact H11
  isplitl [H12]; · iexact H12
  isplitl [H13]; · iexact H13
  isplitl [H14]; · iexact H14
  isplitl [H15]; · iexact H15
  iintro ⟨W0, W1, W2, W3, W4, W8, H11, H12, H13, H14, H15⟩
  rw [← accAt_mid m c t h]
  rw [← outAt_mid m c t (by omega)]
  isplitl [H11 H12 H13 H14 H15]
  · isplitl [H11]; · iexact H11
    isplitl [H12]; · iexact H12
    isplitl [H13]; · iexact H13
    isplitl [H14]; · iexact H14
    iexact H15
  isplitl [Ho]; · iexact Ho
  isplitl [W0]; · iexact W0
  isplitl [W1]
  · iexists d1
    change _ ⊢ owns (c : Thread nD τ) (win0_1.stage (cfg0.slots t 1)) fullShare (win0_1.fill (grid0.coords t) d1 (win0_1.cut (grid0.coords t) (tile1 m c t)))
    rw [show win0_1.cut (grid0.coords t) (tile1 m c t) = blk1 m c t from win0_1.cut_fill _ _ _]
    rw [show win0_1.fill (grid0.coords t) d1 (blk1 m c t) = tile1 m c t from fill_1 (grid0.coords t) hlt _ _ _]
    try iexact W1
  isplitl [W2]
  · iexists d2
    change _ ⊢ owns (c : Thread nD τ) (win0_2.stage (cfg0.slots t 2)) fullShare (win0_2.fill (grid0.coords t) d2 (win0_2.cut (grid0.coords t) (tile2 m c t)))
    rw [show win0_2.cut (grid0.coords t) (tile2 m c t) = blk2 m c t from win0_2.cut_fill _ _ _]
    rw [show win0_2.fill (grid0.coords t) d2 (blk2 m c t) = tile2 m c t from fill_2 (grid0.coords t) hlt _ _ _]
    try iexact W2
  isplitl [W3]
  · iexists d3
    change _ ⊢ owns (c : Thread nD τ) (win0_3.stage (cfg0.slots t 3)) fullShare (win0_3.fill (grid0.coords t) d3 (win0_3.cut (grid0.coords t) (tile3 m c t)))
    rw [show win0_3.cut (grid0.coords t) (tile3 m c t) = blk3 m c t from win0_3.cut_fill _ _ _]
    rw [show win0_3.fill (grid0.coords t) d3 (blk3 m c t) = tile3 m c t from fill_3 (grid0.coords t) hlt _ _ _]
    try iexact W3
  isplitl [W4]
  · iexists d4
    change _ ⊢ owns (c : Thread nD τ) (win0_4.stage (cfg0.slots t 4)) fullShare (win0_4.fill (grid0.coords t) d4 (win0_4.cut (grid0.coords t) (tile4 m c t)))
    rw [show win0_4.cut (grid0.coords t) (tile4 m c t) = blk4 m c t from win0_4.cut_fill _ _ _]
    rw [show win0_4.fill (grid0.coords t) d4 (blk4 m c t) = tile4 m c t from fill_4 (grid0.coords t) hlt _ _ _]
    try iexact W4
  isplitl [W5]; · iexact W5
  isplitl [W6]; · iexact W6
  isplitl [W7]; · iexact W7
  isplitl [W8]
  · iexists (outAt m c t)
    change _ ⊢ owns (c : Thread nD τ) (win0_8.stage (cfg0.slots t 8)) fullShare (win0_8.fill (grid0.coords t) (outAt m c t) (win0_8.cut (grid0.coords t) (outAt m c t)))
    rw [win0_8.fill_cut]; try iexact W8
  · rw [leaves9_idle m c t (by omega)]
    iexists d9; iexact W9

/-- The obligation at the last point. -/
theorem obl_last (c : Dev nD) (hids : ∀ t, row (idsOf m c) t < 151936) (t : Fin grid0.N) (h : t.val = 74) : Obl m c t := by
  unfold Obl
  rw [bigSep_W0, bigSep_W0]
  simp only
  rw [show (dats m 0 c).Φ t.castSucc = scr m c t.val from rfl, show (dats m 0 c).Φ t.succ = scr m c (t.val + 1) from rfl,
    show (dats m 0 c).owesAt () t.succ = (dats m 0 c).owesAt () t.castSucc from rfl]
  have hi := coords_val t
  have hl : (grid0.coords t 0).val = 74 := by omega
  rw [scr_pos m c t.val (by omega), scr_succ]
  iintro ⟨⟨H11, H12, H13, H14, H15⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_0 m c t d0]
  rw [before_1 m c t d1]
  rw [before_2 m c t d2]
  rw [before_3 m c t d3]
  rw [before_4 m c t d4]
  rw [before_5 m c t d5]
  rw [before_6 m c t d6]
  rw [before_7 m c t d7]
  rw [before_8 m c t d8]
  iapply (body_last c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (idsOf m c) Set.univ hl (win0_1.fill (grid0.coords t) d1 (blk1 m c t)) (win0_2.fill (grid0.coords t) d2 (blk2 m c t)) (win0_3.fill (grid0.coords t) d3 (blk3 m c t)) (win0_4.fill (grid0.coords t) d4 (blk4 m c t)) d8 ((dats m 0 c).before (9 : Fin 10) t d9) (hhC m c) (tabC m c) (accAt m c t.val))
  isplitl [W0]; · iexact W0
  isplitl [W1]; · iexact W1
  isplitl [W2]; · iexact W2
  isplitl [W3]; · iexact W3
  isplitl [W4]; · iexact W4
  isplitl [W8]; · iexact W8
  isplitl [W9]; · iexact W9
  isplitl [H11]; · iexact H11
  isplitl [H12]; · iexact H12
  isplitl [H13]; · iexact H13
  isplitl [H14]; · iexact H14
  isplitl [H15]; · iexact H15
  iintro ⟨W0, W1, W2, W3, W4, W8, W9, H11, H12, H13, H14, H15⟩
  rw [show cutA (win0_1.fill (grid0.coords t) d1 (blk1 m c t)) = cutA (tile1 m c t) from fill_cutA (grid0.coords t) hl _ _ _]
  rw [show cutB (win0_1.fill (grid0.coords t) d1 (blk1 m c t)) = cutB (tile1 m c t) from fill_cutB (grid0.coords t) hl _ _ _]
  rw [show cut3 (win0_2.fill (grid0.coords t) d2 (blk2 m c t)) = cut3 (tile2 m c t) from fill_cut3 (grid0.coords t) hl _ _ _]
  rw [show cut4 (win0_3.fill (grid0.coords t) d3 (blk3 m c t)) = cut4 (tile3 m c t) from fill_cut4 (grid0.coords t) hl _ _ _]
  rw [show cut5 (win0_4.fill (grid0.coords t) d4 (blk4 m c t)) = cut5 (tile4 m c t) from fill_cut5 (grid0.coords t) hl _ _ _]
  rw [← accAt_last m c t h]
  isplitl [H11 H12 H13 H14 H15]
  · isplitl [H11]; · iexact H11
    isplitl [H12]; · iexact H12
    isplitl [H13]; · iexact H13
    isplitl [H14]; · iexact H14
    iexact H15
  isplitl [Ho]; · iexact Ho
  isplitl [W0]; · iexact W0
  isplitl [W1]
  · iexists d1
    change _ ⊢ owns (c : Thread nD τ) (win0_1.stage (cfg0.slots t 1)) fullShare (win0_1.fill (grid0.coords t) d1 (win0_1.cut (grid0.coords t) (tile1 m c t)))
    rw [show win0_1.cut (grid0.coords t) (tile1 m c t) = blk1 m c t from win0_1.cut_fill _ _ _]
    try iexact W1
  isplitl [W2]
  · iexists d2
    change _ ⊢ owns (c : Thread nD τ) (win0_2.stage (cfg0.slots t 2)) fullShare (win0_2.fill (grid0.coords t) d2 (win0_2.cut (grid0.coords t) (tile2 m c t)))
    rw [show win0_2.cut (grid0.coords t) (tile2 m c t) = blk2 m c t from win0_2.cut_fill _ _ _]
    try iexact W2
  isplitl [W3]
  · iexists d3
    change _ ⊢ owns (c : Thread nD τ) (win0_3.stage (cfg0.slots t 3)) fullShare (win0_3.fill (grid0.coords t) d3 (win0_3.cut (grid0.coords t) (tile3 m c t)))
    rw [show win0_3.cut (grid0.coords t) (tile3 m c t) = blk3 m c t from win0_3.cut_fill _ _ _]
    try iexact W3
  isplitl [W4]
  · iexists d4
    change _ ⊢ owns (c : Thread nD τ) (win0_4.stage (cfg0.slots t 4)) fullShare (win0_4.fill (grid0.coords t) d4 (win0_4.cut (grid0.coords t) (tile4 m c t)))
    rw [show win0_4.cut (grid0.coords t) (tile4 m c t) = blk4 m c t from win0_4.cut_fill _ _ _]
    try iexact W4
  isplitl [W5]; · iexact W5
  isplitl [W6]; · iexact W6
  isplitl [W7]; · iexact W7
  isplitl [W8]
  · iexists (fold (FloatOps.addf (F := F) (φ := .f32)) (idsOf m c) (tabC m c) (grid0.coords t 0).val 256 (put9 d8 (k0_pay18 (cut3 (tile2 m c t)) (cutA (tile1 m c t)) (cutB (tile1 m c t)) (hhC m c))))
    change _ ⊢ owns (c : Thread nD τ) (win0_8.stage (cfg0.slots t 8)) fullShare (win0_8.fill (grid0.coords t) _ (win0_8.cut (grid0.coords t) (outAt m c t)))
    rw [win0_8.fill_congr_cut (grid0.coords t) (Y := outAt m c t) (by
      unfold outAt deAt; rw [if_neg (by omega), hi, h]; exact cut8_put9 (grid0.coords t) hl _ _ _ _ _)]
    try iexact W8
  · rw [leaves9_live m c t h, show t.val + 1 = 75 from by omega]
    iexact W9

/-- The body's obligation. -/
theorem body_obligation (c : Dev nD) (hids : ∀ t, row (idsOf m c) t < 151936) :
    BodyObligationLoose (dats m 0 c) (defs₀ (F := F)) 𝒱₀ () Set.univ := fun t => by
  have hN : t.val < 75 := lt_of_lt_of_eq t.isLt N_0
  have h : Obl m c t := by
    by_cases h0 : t.val = 0
    · exact obl_first m c hids t h0
    · by_cases h : t.val < 74
      · exact obl_mid m c hids t h0 h
      · exact obl_last m c hids t (by omega)
  exact h

end Cert.Proof.KI

end
-- ==== Proof.KI.Run.lean ====
/-
  The run: from any memory whose row numbers are in range, every execution ends with the arguments unchanged,
  every counter at zero and the two results at what the grid's write-backs leave.
-/
module

public import proofs.«01_k».proof.Proof.KI.Body
public import proofs.«01_k».proof.Proof.Pre
public import proofs.«01_k».proof.Defs
public import Idealize.ShloMosaic.Lib.Pipeline.KitQuiescent

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Own Cert.Link

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁

/-- Every staging cell at round 0, a token for every transfer. -/
def u₀ : UR sig nD τ := initOf (Pipeline.cells (cfgs (F := F)) launch0.cellOf_inj) (Pipeline.launchToks (cfgs (F := F)) launch0.cellOf_inj)

/-- An array after the run. -/
def finalA (c : Dev nD) (w : Fin 10) : Buf (Elt F) (((cfg0 (F := F)).win w).arr.view.loc (c : Thread nD τ)) :=
  (dats m 0 c).arrAt w (cfg0 (F := F)).N

theorem V_arg (c : Dev nD) (b : Ref sig .tc) (h : b ≠ main_v0) : V m c b = m ((c : Thread nD τ).loc b) :=
  StableHlo.after_of_forall_not_mem _ _ (fun op hop hb => by
    rw [List.mem_singleton] at hop; subst hop
    rw [StableHlo.reshape_writes, Finset.mem_singleton] at hb
    exact h (Proc.devRef_injective _ hb))

theorem hostOps0_fresh : (hostOps0 : List (HloOp τ sig (Elt F))).Forall fun op => op.fresh = ∅ := by
  simp only [List.Forall]; repeat' constructor

set_option backward.isDefEq.respectTransparency.types false in
/-- The run of the whole program. -/
theorem run_main (hids : ∀ c t, row (idsOf m c) t < 151936) :
    θ_run defs (onTc (τ := τ) (main (F := F))) ⟨m, fun _ => 0, ρ⟩ (fun r =>
      (∀ (c : Dev nD), (∀ w : Fin 10, r.2.mem (((cfg0 (F := F)).win w).arr.view.loc (c : Thread nD τ)) = finalA m c w)
        ∧ r.2.mem ((c : Thread nD τ).loc main_arg5) = V m c main_arg5) ∧ r.2.sem = fun _ => 0) :=
  Pipeline.θ_run_region_noSem_kit_quiescent cfgs (dats m) () (0 : Fin 1) launch0 EP defs₀ 𝒱₀ m ρ main
    (hbody := fun c => body_obligation m c (hids c))
    (hshare := fun c => (dats m 0 c).share_full fun _ => rfl) (howed := fun _ _ => rfl)
    (u₀ := u₀ (F := F)) (hu₀ := BI.Entails.refl _)
    (V := fun c b => V m c b)
    (hmain := Pipeline.hmain_prefix cfgs (0 : Fin 1) defs₀ 𝒱₀ m main hostOps0 hostOps0_sub hostOps0_fresh main_chain)
    (hA := fun _ _ => rfl)
    (X := fun _ => iprop(emp)) (Y := fun _ => iprop(emp)) (Z := fun c => iprop((((c : Thread nD τ).loc main_arg5) ↦{fullShare} V m c main_arg5)))
    (hX := fun c => by rw [unscopedRest0_eq]; iintro H; isplitr; · iempintro
                       iexact H)
    (hin := fun c => by
                       rw [scopedRest0_eq, show (dats m 0 c).Φ 0 = scr m c 0 from rfl, scr_zero]
                       simp only [owns_whole]
                       iintro ⟨-, H⟩; iexact H)
    (hout := fun c => by
      rw [scopedRest0_eq, show (dats m 0 c).Φ (Fin.last (cfg0 (F := F)).N) = scr m c (74 + 1) from rfl, scr_succ]
      simp only [owns_whole]
      iintro ⟨H1, H2, H3, H4, H5⟩
      isplitr; · iempintro
      isplitl [H1]; · iexists _; iexact H1
      isplitl [H2]; · iexists _; iexact H2
      isplitl [H3]; · iexists _; iexact H3
      isplitl [H4]; · iexists _; iexact H4
      iexists _; iexact H5)
    (QY := fun c s => s.mem ((c : Thread nD τ).loc main_arg5) = V m c main_arg5)
    (hY := fun c s' => by
      iintro ⟨-, HZ, HSI⟩
      icombine HSI HZ gives %h0
      imodintro
      isplitr; · ipureintro; exact Buf.eq_of_forall_mem_univ h0
      iexact HSI)
    (hQ := fun _ h hz => ⟨fun c => h c, hz⟩)

/-- The arguments end as they began. -/
theorem kept (c : Dev nD) (s : MemSt nD τ sig (Elt F))
    (h : (∀ w : Fin 10, s.mem (((cfg0 (F := F)).win w).arr.view.loc (c : Thread nD τ)) = finalA m c w)
        ∧ s.mem ((c : Thread nD τ).loc main_arg5) = V m c main_arg5) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7) :=
  ⟨((h.1 1).trans ((dats m 0 c).arrAt_in (1 : Fin 10) rfl _)).trans (V_arg m c main_arg0 (by decide)),
    ((h.1 2).trans ((dats m 0 c).arrAt_in (2 : Fin 10) rfl _)).trans (V_arg m c main_arg1 (by decide)),
    ((h.1 5).trans ((dats m 0 c).arrAt_in (5 : Fin 10) rfl _)).trans (V_arg m c main_arg2 (by decide)),
    ((h.1 6).trans ((dats m 0 c).arrAt_in (6 : Fin 10) rfl _)).trans (V_arg m c main_arg3 (by decide)),
    ((h.1 4).trans ((dats m 0 c).arrAt_in (4 : Fin 10) rfl _)).trans (V_arg m c main_arg4 (by decide)),
    h.2.trans (V_arg m c main_arg5 (by decide)),
    ((h.1 0).trans ((dats m 0 c).arrAt_in (0 : Fin 10) rfl _)).trans (V_arg m c main_arg6 (by decide)),
    ((h.1 7).trans ((dats m 0 c).arrAt_in (7 : Fin 10) rfl _)).trans (V_arg m c main_arg7 (by decide))⟩

theorem V_idx (c : Dev nD) : idsOf m c = m ((c : Thread nD τ).loc main_arg6) := V_arg m c main_arg6 (by decide)

end Cert.Proof.KI

namespace Cert.Proof.KI

open Cert.KernelIdeal Cert.KernelIdeal.Gen
open Idealize.ShloMosaic Idealize.SL.Sem
open Idealize.ShloMosaic.TcCoe

/-- The frame: the program runs, leaves its arguments as they were and every counter at zero. -/
theorem frame [Cert.Pre_ids_name_rows.Facts] : Cert.quiescent_KernelIdeal := by
  intro m ρ hpre
  refine (θ_run defs _ _).mono (fun r h => ⟨fun c => kept m c r.2 (h.1 c), h.2⟩)
    (run_main (F := Ideal) m ρ fun c t => ?_)
  rw [V_idx]
  exact row_lt_of_pre _ _ _ _ _ _ _ _ (hpre c) t

end Cert.Proof.KI

end
-- ==== Proof.Spec.lean ====
/-
  The two results as sums over extended reals, element by element, in terms of the arguments' elements.
-/
module

public import proofs.«01_k».proof.Proof.Link
public import Idealize.ShloMosaic.PureOps.Ideal

@[expose] public section

noncomputable section

namespace Cert.Spec

open Idealize.ShloMosaic Idealize.ShloMosaic.ValueIdx
open Cert.Link
open scoped BigOperators

/-- The half of the sequence an entry lies in. -/
def half (s : Fin 256) : Fin 2 := ⟨s.val / 128, by omega⟩

/-- The scaled logit gradient of entry `s` at row `v`: its code times the scale of its half. -/
def D (dl : (⟨3, ![1, 256, 151936]⟩ : Shape).Idx → EReal) (dls : (⟨3, ![1, 2, 151936]⟩ : Shape).Idx → EReal)
    (s : Fin 256) (v : Fin 151936) : EReal := dl (ix3 0 s v) * dls (ix3 0 (half s) v)

/-- The scaled hidden value of entry `s` at column `j`. -/
def H (h : (⟨3, ![1, 256, 896]⟩ : Shape).Idx → EReal) (hs : (⟨2, ![1, 256]⟩ : Shape).Idx → EReal)
    (s : Fin 256) (j : Fin 896) : EReal := h (ix3 0 s j) * hs (ix2 0 s)

/-- The table's gradient at row `v`, column `j`: the product over the entries, and every listed row that names `v`. -/
def dE (dl : (⟨3, ![1, 256, 151936]⟩ : Shape).Idx → EReal) (dls : (⟨3, ![1, 2, 151936]⟩ : Shape).Idx → EReal)
    (h : (⟨3, ![1, 256, 896]⟩ : Shape).Idx → EReal) (hs : (⟨2, ![1, 256]⟩ : Shape).Idx → EReal)
    (ids : (⟨2, ![1, 256]⟩ : Shape).Idx → BitVec 32) (demb : (⟨3, ![1, 256, 896]⟩ : Shape).Idx → EReal)
    (v : Fin 151936) (j : Fin 896) : EReal :=
  (∑ s : Fin 256, D dl dls s v * H h hs s j) + ∑ t : Fin 256, if row ids t.val = v.val then demb (ix3 0 t j) else 0

/-- The hidden gradient of entry `s` at column `j`: the product over the table's rows. -/
def dH (dl : (⟨3, ![1, 256, 151936]⟩ : Shape).Idx → EReal) (dls : (⟨3, ![1, 2, 151936]⟩ : Shape).Idx → EReal)
    (e : (⟨2, ![151936, 896]⟩ : Shape).Idx → EReal) (es : (⟨1, ![151936]⟩ : Shape).Idx → EReal)
    (s : Fin 256) (j : Fin 896) : EReal :=
  ∑ v : Fin 151936, D dl dls s v * es (ix1 v) * e (ix2 v j)

/-- What a walk of a tile's list leaves at an element, when addition is that of the extended reals: what was there,
    and every listed row that names the element's row. -/
theorem fold_apply (ids : (⟨2, ![1, 256]⟩ : Shape).Idx → BitVec 32) (tab : (⟨2, ![256, 896]⟩ : Shape).Idx → EReal)
    (k : ℕ) (r : Fin 2048) (j : Fin 896) : ∀ (n : ℕ) (hn : n ≤ 256) (de : (⟨2, ![2048, 896]⟩ : Shape).Idx → EReal),
    fold (· + ·) ids tab k n de (ix2 r j)
      = de (ix2 r j) + ∑ t : Fin n, if row ids t.val = 2048 * k + r.val then tab (ix2 ⟨t.val, by omega⟩ j) else 0
  | 0, _, de => by rw [fold, Finset.univ_eq_empty, Finset.sum_empty, add_zero]
  | n + 1, hn, de => by
    rw [Fin.sum_univ_castSucc]
    have hr := r.isLt
    unfold fold
    split
    · rename_i h
      rw [fold_apply ids tab k r j n (by omega)]
      unfold step
      by_cases e : r.val = row ids n % 2048
      · rw [if_pos (show ((ix2 r j : (⟨2, ![2048, 896]⟩ : Shape).Idx) 0).val = row ids n % 2048 from e),
          if_pos (show row ids (Fin.last n).val = 2048 * k + r.val by
            have := Nat.div_add_mod (row ids n) 2048; show row ids n = _; rw [h.2] at this; omega), add_assoc,
          add_comm (tab _)]
        rfl
      · rw [if_neg (show ¬((ix2 r j : (⟨2, ![2048, 896]⟩ : Shape).Idx) 0).val = row ids n % 2048 from e),
          if_neg (show ¬row ids (Fin.last n).val = 2048 * k + r.val from fun q => e (by
            have q : row ids n = _ := q; rw [q]; omega)), add_zero]
        rfl
    · rename_i h
      rw [fold_apply ids tab k r j n (by omega),
        if_neg (show ¬row ids (Fin.last n).val = 2048 * k + r.val from fun q => h ⟨by omega, by
          have q : row ids n = _ := q; rw [q]; omega⟩), add_zero]
      rfl

end Cert.Spec

end
-- ==== Proof.KI.Pay.lean ====
/-
  One point's arithmetic over the extended reals, element by element: the scaled block, the two products.
-/
module

public import proofs.«01_k».proof.Proof.KI.Data
public import proofs.«01_k».proof.Proof.Spec
public import Idealize.ShloMosaic.Lib.ValueIdx
public import Idealize.ShloMosaic.Lib.ValueLayout
public import Idealize.ShloMosaic.Lib.Pipeline.Value
public import Idealize.ShloMosaic.PureOps.Ideal.Laws

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Own Cert.Link Cert.Spec
open scoped BigOperators

/-- The scaled block of 2048 rows at an element: the code times the scale of its half. -/
theorem scaled_2048 (dls : Vec Ideal S1x2x2048 .f32) (A B : Vec Ideal S1x128x2048 .fp8e5m2) (s : Fin 256) (j : Fin 2048)
    (x : Fin 256 → EReal) (y : Fin 2 → EReal) (hA : ∀ p : Fin 128, A (ix3 0 p j) = x ⟨p.val, by omega⟩)
    (hB : ∀ p : Fin 128, B (ix3 0 p j) = x ⟨128 + p.val, by omega⟩) (hy : ∀ q, dls (ix3 0 q j) = y q) :
    k0_pay1 (F := Ideal) dls A B (ix2 s j) = x s * y (half s) := by
  unfold k0_pay1
  by_cases h : s.val < 128
  · refine (concatenate_pair_apply_left (s₁ := S128x2048) (s₂ := S128x2048) 0 _ _ _ (ix2 s j) rfl (ix2 (⟨s.val, h⟩ : Fin 128) j) (fun b => by fin_cases b <;> rfl)).trans ?_
    rw [mulf_apply, extf_apply, shapeCast_1ab_ab_apply, broadcastTo_1b_ab_apply,
      slice2_axis0_apply 0 _ _ _ _ (0 : Fin 2) rfl, truncf_apply, shapeCast_1ab_ab_apply, hA, hy]
    exact congrArg (x s * y ·) (Fin.ext (show 0 = s.val / 128 by omega))
  · refine (concatenate_pair_apply_right (s₁ := S128x2048) (s₂ := S128x2048) 0 _ _ _ (ix2 s j) rfl rfl (ix2 (⟨s.val - 128, by omega⟩ : Fin 128) j)
      (fun b hb => by fin_cases b; · exact absurd rfl hb
                      · rfl) (show s.val - 128 + 128 = s.val by omega)).trans ?_
    rw [mulf_apply, extf_apply, shapeCast_1ab_ab_apply, broadcastTo_1b_ab_apply,
      slice2_axis0_apply 1 _ _ _ _ (1 : Fin 2) rfl, truncf_apply, shapeCast_1ab_ab_apply, hB, hy]
    rw [show (⟨128 + (⟨s.val - 128, by omega⟩ : Fin 128).val, by omega⟩ : Fin 256) = s from Fin.ext (show 128 + (s.val - 128) = s.val by omega)]
    exact congrArg (x s * y ·) (Fin.ext (show 1 = s.val / 128 by omega))

/-- The product over the entries, from a block of 2048 rows. -/
theorem overEntries_2048 (dls : Vec Ideal S1x2x2048 .f32) (A B : Vec Ideal S1x128x2048 .fp8e5m2) (hh : Vec Ideal S256x896 .bf16)
    (j : Fin 2048) (c : Fin 896)
    (x : Fin 256 → EReal) (y : Fin 2 → EReal) (hA : ∀ p : Fin 128, A (ix3 0 p j) = x ⟨p.val, by omega⟩)
    (hB : ∀ p : Fin 128, B (ix3 0 p j) = x ⟨128 + p.val, by omega⟩) (hy : ∀ q, dls (ix3 0 q j) = y q) :
    k0_pay2 (F := Ideal) dls A B hh (ix2 j c) = ∑ s : Fin 256, x s * y (half s) * hh (ix2 s c) := by
  unfold k0_pay2
  refine (Ideal.matmul_apply dot_S256x2048_S256x896_S2048x896_0_0_1_1_n_n none _ _ _ _).trans ?_
  rw [constant_apply, Ideal.ofBits_zero_f32, zero_add,
    ← Equiv.sum_comp (contrEquiv1 dot_S256x2048_S256x896_S2048x896_0_0_1_1_n_n 256 rfl rfl).symm]
  refine Finset.sum_congr rfl fun s _ => ?_
  have hk := contrEquiv1_symm_val dot_S256x2048_S256x896_S2048x896_0_0_1_1_n_n 256 rfl rfl s
  have el : dot_S256x2048_S256x896_S2048x896_0_0_1_1_n_n.lhsIdx (ix2 j c) ((contrEquiv1 dot_S256x2048_S256x896_S2048x896_0_0_1_1_n_n 256 rfl rfl).symm s) = ix2 s j := by
    funext a; apply Fin.ext
    match a with
    | ⟨0, _⟩ => exact hk
    | ⟨1, _⟩ => rfl
  have er : dot_S256x2048_S256x896_S2048x896_0_0_1_1_n_n.rhsIdx (ix2 j c) ((contrEquiv1 dot_S256x2048_S256x896_S2048x896_0_0_1_1_n_n 256 rfl rfl).symm s) = ix2 s c := by
    funext a; apply Fin.ext
    match a with
    | ⟨0, _⟩ => exact hk
    | ⟨1, _⟩ => rfl
  rw [el, er, scaled_2048 dls A B s j x y hA hB hy]

/-- The sum so far and a block's product over its 2048 rows. -/
theorem overRows_2048 (dls : Vec Ideal S1x2x2048 .f32) (A B : Vec Ideal S1x128x2048 .fp8e5m2) (es : Vec Ideal S1x2048 .f32)
    (acc : Vec Ideal S256x896 .f32) (e : Vec Ideal S2048x896 .i8) (s : Fin 256) (c : Fin 896)
    (x : Fin 256 → Fin 2048 → EReal) (y : Fin 2 → Fin 2048 → EReal) (hA : ∀ (p : Fin 128) j, A (ix3 0 p j) = x ⟨p.val, by omega⟩ j)
    (hB : ∀ (p : Fin 128) j, B (ix3 0 p j) = x ⟨128 + p.val, by omega⟩ j) (hy : ∀ q j, dls (ix3 0 q j) = y q j) :
    k0_pay3 (F := Ideal) dls A B es acc e (ix2 s c)
      = acc (ix2 s c) + ∑ j : Fin 2048, x s j * y (half s) j * es (ix2 0 j) * (FloatOps.sitofp (F := Ideal) .bf16 (e (ix2 j c))) := by
  unfold k0_pay3
  rw [shapeCast_self, addf_apply]
  refine congrArg (acc (ix2 s c) + ·) ?_
  refine (Ideal.matmul_apply dot_S256x2048_S2048x896_S256x896_1_0_0_1_n_n none _ _ _ _).trans ?_
  rw [constant_apply, Ideal.ofBits_zero_f32, zero_add,
    ← Equiv.sum_comp (contrEquiv1 dot_S256x2048_S2048x896_S256x896_1_0_0_1_n_n 2048 rfl rfl).symm]
  refine Finset.sum_congr rfl fun j _ => ?_
  have hk := contrEquiv1_symm_val dot_S256x2048_S2048x896_S256x896_1_0_0_1_n_n 2048 rfl rfl j
  have el : dot_S256x2048_S2048x896_S256x896_1_0_0_1_n_n.lhsIdx (ix2 s c) ((contrEquiv1 dot_S256x2048_S2048x896_S256x896_1_0_0_1_n_n 2048 rfl rfl).symm j) = ix2 s j := by
    funext a; apply Fin.ext
    match a with
    | ⟨0, _⟩ => rfl
    | ⟨1, _⟩ => exact hk
  have er : dot_S256x2048_S2048x896_S256x896_1_0_0_1_n_n.rhsIdx (ix2 s c) ((contrEquiv1 dot_S256x2048_S2048x896_S256x896_1_0_0_1_n_n 2048 rfl rfl).symm j) = ix2 j c := by
    funext a; apply Fin.ext
    match a with
    | ⟨0, _⟩ => exact hk
    | ⟨1, _⟩ => rfl
  rw [el, er, mulf_apply, scaled_2048 dls A B s j (fun s => x s j) (fun q => y q j) (fun p => hA p j) (fun p => hB p j) (fun q => hy q j),
    broadcastTo_1b_ab_apply, truncf_apply, shapeCast_self]
  rfl

/-- The scaled block of 384 rows at an element: the code times the scale of its half. -/
theorem scaled_384 (dls : Vec Ideal S1x2x384 .f32) (A B : Vec Ideal S1x128x384 .fp8e5m2) (s : Fin 256) (j : Fin 384)
    (x : Fin 256 → EReal) (y : Fin 2 → EReal) (hA : ∀ p : Fin 128, A (ix3 0 p j) = x ⟨p.val, by omega⟩)
    (hB : ∀ p : Fin 128, B (ix3 0 p j) = x ⟨128 + p.val, by omega⟩) (hy : ∀ q, dls (ix3 0 q j) = y q) :
    k0_pay17 (F := Ideal) dls A B (ix2 s j) = x s * y (half s) := by
  unfold k0_pay17
  by_cases h : s.val < 128
  · refine (concatenate_pair_apply_left (s₁ := S128x384) (s₂ := S128x384) 0 _ _ _ (ix2 s j) rfl (ix2 (⟨s.val, h⟩ : Fin 128) j) (fun b => by fin_cases b <;> rfl)).trans ?_
    rw [mulf_apply, extf_apply, shapeCast_1ab_ab_apply, broadcastTo_1b_ab_apply,
      slice2_axis0_apply 0 _ _ _ _ (0 : Fin 2) rfl, truncf_apply, shapeCast_1ab_ab_apply, hA, hy]
    exact congrArg (x s * y ·) (Fin.ext (show 0 = s.val / 128 by omega))
  · refine (concatenate_pair_apply_right (s₁ := S128x384) (s₂ := S128x384) 0 _ _ _ (ix2 s j) rfl rfl (ix2 (⟨s.val - 128, by omega⟩ : Fin 128) j)
      (fun b hb => by fin_cases b; · exact absurd rfl hb
                      · rfl) (show s.val - 128 + 128 = s.val by omega)).trans ?_
    rw [mulf_apply, extf_apply, shapeCast_1ab_ab_apply, broadcastTo_1b_ab_apply,
      slice2_axis0_apply 1 _ _ _ _ (1 : Fin 2) rfl, truncf_apply, shapeCast_1ab_ab_apply, hB, hy]
    rw [show (⟨128 + (⟨s.val - 128, by omega⟩ : Fin 128).val, by omega⟩ : Fin 256) = s from Fin.ext (show 128 + (s.val - 128) = s.val by omega)]
    exact congrArg (x s * y ·) (Fin.ext (show 1 = s.val / 128 by omega))

/-- The product over the entries, from a block of 384 rows. -/
theorem overEntries_384 (dls : Vec Ideal S1x2x384 .f32) (A B : Vec Ideal S1x128x384 .fp8e5m2) (hh : Vec Ideal S256x896 .bf16)
    (j : Fin 384) (c : Fin 896)
    (x : Fin 256 → EReal) (y : Fin 2 → EReal) (hA : ∀ p : Fin 128, A (ix3 0 p j) = x ⟨p.val, by omega⟩)
    (hB : ∀ p : Fin 128, B (ix3 0 p j) = x ⟨128 + p.val, by omega⟩) (hy : ∀ q, dls (ix3 0 q j) = y q) :
    k0_pay18 (F := Ideal) dls A B hh (ix2 j c) = ∑ s : Fin 256, x s * y (half s) * hh (ix2 s c) := by
  unfold k0_pay18
  refine (Ideal.matmul_apply dot_S256x384_S256x896_S384x896_0_0_1_1_n_n none _ _ _ _).trans ?_
  rw [constant_apply, Ideal.ofBits_zero_f32, zero_add,
    ← Equiv.sum_comp (contrEquiv1 dot_S256x384_S256x896_S384x896_0_0_1_1_n_n 256 rfl rfl).symm]
  refine Finset.sum_congr rfl fun s _ => ?_
  have hk := contrEquiv1_symm_val dot_S256x384_S256x896_S384x896_0_0_1_1_n_n 256 rfl rfl s
  have el : dot_S256x384_S256x896_S384x896_0_0_1_1_n_n.lhsIdx (ix2 j c) ((contrEquiv1 dot_S256x384_S256x896_S384x896_0_0_1_1_n_n 256 rfl rfl).symm s) = ix2 s j := by
    funext a; apply Fin.ext
    match a with
    | ⟨0, _⟩ => exact hk
    | ⟨1, _⟩ => rfl
  have er : dot_S256x384_S256x896_S384x896_0_0_1_1_n_n.rhsIdx (ix2 j c) ((contrEquiv1 dot_S256x384_S256x896_S384x896_0_0_1_1_n_n 256 rfl rfl).symm s) = ix2 s c := by
    funext a; apply Fin.ext
    match a with
    | ⟨0, _⟩ => exact hk
    | ⟨1, _⟩ => rfl
  rw [el, er, scaled_384 dls A B s j x y hA hB hy]

/-- The sum so far and a block's product over its 384 rows. -/
theorem overRows_384 (dls : Vec Ideal S1x2x384 .f32) (A B : Vec Ideal S1x128x384 .fp8e5m2) (es : Vec Ideal S1x384 .f32)
    (acc : Vec Ideal S256x896 .f32) (e : Vec Ideal S384x896 .i8) (s : Fin 256) (c : Fin 896)
    (x : Fin 256 → Fin 384 → EReal) (y : Fin 2 → Fin 384 → EReal) (hA : ∀ (p : Fin 128) j, A (ix3 0 p j) = x ⟨p.val, by omega⟩ j)
    (hB : ∀ (p : Fin 128) j, B (ix3 0 p j) = x ⟨128 + p.val, by omega⟩ j) (hy : ∀ q j, dls (ix3 0 q j) = y q j) :
    k0_pay19 (F := Ideal) dls A B es acc e (ix2 s c)
      = acc (ix2 s c) + ∑ j : Fin 384, x s j * y (half s) j * es (ix2 0 j) * (FloatOps.sitofp (F := Ideal) .bf16 (e (ix2 j c))) := by
  unfold k0_pay19
  rw [shapeCast_self, addf_apply]
  refine congrArg (acc (ix2 s c) + ·) ?_
  refine (Ideal.matmul_apply dot_S256x384_S384x896_S256x896_1_0_0_1_n_n none _ _ _ _).trans ?_
  rw [constant_apply, Ideal.ofBits_zero_f32, zero_add,
    ← Equiv.sum_comp (contrEquiv1 dot_S256x384_S384x896_S256x896_1_0_0_1_n_n 384 rfl rfl).symm]
  refine Finset.sum_congr rfl fun j _ => ?_
  have hk := contrEquiv1_symm_val dot_S256x384_S384x896_S256x896_1_0_0_1_n_n 384 rfl rfl j
  have el : dot_S256x384_S384x896_S256x896_1_0_0_1_n_n.lhsIdx (ix2 s c) ((contrEquiv1 dot_S256x384_S384x896_S256x896_1_0_0_1_n_n 384 rfl rfl).symm j) = ix2 s j := by
    funext a; apply Fin.ext
    match a with
    | ⟨0, _⟩ => rfl
    | ⟨1, _⟩ => exact hk
  have er : dot_S256x384_S384x896_S256x896_1_0_0_1_n_n.rhsIdx (ix2 s c) ((contrEquiv1 dot_S256x384_S384x896_S256x896_1_0_0_1_n_n 384 rfl rfl).symm j) = ix2 j c := by
    funext a; apply Fin.ext
    match a with
    | ⟨0, _⟩ => exact hk
    | ⟨1, _⟩ => rfl
  rw [el, er, mulf_apply, scaled_384 dls A B s j (fun s => x s j) (fun q => y q j) (fun p => hA p j) (fun p => hB p j) (fun q => hy q j),
    broadcastTo_1b_ab_apply, truncf_apply, shapeCast_self]
  rfl

end Cert.Proof.KI

end
-- ==== Proof.KI.Tiles.lean ====
/-
  The tiles of the arguments, element by element: each is the array's element at the tile's place.
-/
module

public import proofs.«01_k».proof.Proof.KI.Run
public import proofs.«01_k».proof.Proof.KI.Pay

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.ShloMosaic.Pipeline (Dat Cfg Window)
open Cert.Link

variable {F : FTy → Type} [FloatOps F]

variable (m : (ℓ : Loc nD τ sig) → Buf (Elt F) ℓ)

theorem size_1 : ∀ i : grid0.Coords, win0_1.xsize i 0 = 1 ∧ win0_1.xsize i 1 = 256 ∧ win0_1.xsize i 2 = min 2048 (151936 - 2048 * (i 0).val) := by decide +kernel
theorem index_1 : ∀ i : grid0.Coords, cc0_transform_1 i 0 = 0 ∧ cc0_transform_1 i 1 = 0 ∧ cc0_transform_1 i 2 = (i 0).val := by decide +kernel
/-- Tile 1 inside the array. -/
theorem tile1_apply (c : Dev nD) (t : Fin grid0.N) (s : Fin 256) (j : Fin 2048) (v : Fin 151936) (h : v.val = 2048 * t.val + j.val) :
    tile1 m c t (ix3 0 s j) = V m c main_arg0 (ix3 0 s v) := by
  have hv := v.isLt
  have hj := j.isLt
  have hc := coords_val t
  have hz := size_1 (grid0.coords t)
  have hx := index_1 (grid0.coords t)
  rw [hc] at hz hx
  have hm : win0_1.moved (grid0.coords t) (ix3 0 s j) = true := (win0_1.moved_iff _ _).mpr fun a => by
    match a with
    | ⟨0, _⟩ => show 0 < win0_1.xsize (grid0.coords t) 0; rw [hz.1]; omega
    | ⟨1, _⟩ => show s.val < win0_1.xsize (grid0.coords t) 1; rw [hz.2.1]; exact s.isLt
    | ⟨2, _⟩ => show j.val < win0_1.xsize (grid0.coords t) 2; rw [hz.2.2]; omega
  unfold tile1 Window.fill
  rw [dif_pos hm]
  change V m c main_arg0 ((win0_1.rect t).emb _) = _
  refine congrArg _ (funext fun a => Fin.ext ?_)
  rw [win0_1.rect_emb_val]
  match a with
  | ⟨0, _⟩ => show cc0_transform_1 (grid0.coords t) 0 * 1 + 0 = 0; rw [hx.1]
  | ⟨1, _⟩ => show cc0_transform_1 (grid0.coords t) 1 * 256 + s.val = s.val; rw [hx.2.1]; omega
  | ⟨2, _⟩ => show cc0_transform_1 (grid0.coords t) 2 * 2048 + j.val = v.val; rw [hx.2.2]; omega

theorem size_2 : ∀ i : grid0.Coords, win0_2.xsize i 0 = 1 ∧ win0_2.xsize i 1 = 2 ∧ win0_2.xsize i 2 = min 2048 (151936 - 2048 * (i 0).val) := by decide +kernel
theorem index_2 : ∀ i : grid0.Coords, cc0_transform_2 i 0 = 0 ∧ cc0_transform_2 i 1 = 0 ∧ cc0_transform_2 i 2 = (i 0).val := by decide +kernel
/-- Tile 2 inside the array. -/
theorem tile2_apply (c : Dev nD) (t : Fin grid0.N) (q : Fin 2) (j : Fin 2048) (v : Fin 151936) (h : v.val = 2048 * t.val + j.val) :
    tile2 m c t (ix3 0 q j) = V m c main_arg1 (ix3 0 q v) := by
  have hv := v.isLt
  have hj := j.isLt
  have hc := coords_val t
  have hz := size_2 (grid0.coords t)
  have hx := index_2 (grid0.coords t)
  rw [hc] at hz hx
  have hm : win0_2.moved (grid0.coords t) (ix3 0 q j) = true := (win0_2.moved_iff _ _).mpr fun a => by
    match a with
    | ⟨0, _⟩ => show 0 < win0_2.xsize (grid0.coords t) 0; rw [hz.1]; omega
    | ⟨1, _⟩ => show q.val < win0_2.xsize (grid0.coords t) 1; rw [hz.2.1]; exact q.isLt
    | ⟨2, _⟩ => show j.val < win0_2.xsize (grid0.coords t) 2; rw [hz.2.2]; omega
  unfold tile2 Window.fill
  rw [dif_pos hm]
  change V m c main_arg1 ((win0_2.rect t).emb _) = _
  refine congrArg _ (funext fun a => Fin.ext ?_)
  rw [win0_2.rect_emb_val]
  match a with
  | ⟨0, _⟩ => show cc0_transform_2 (grid0.coords t) 0 * 1 + 0 = 0; rw [hx.1]
  | ⟨1, _⟩ => show cc0_transform_2 (grid0.coords t) 1 * 2 + q.val = q.val; rw [hx.2.1]; omega
  | ⟨2, _⟩ => show cc0_transform_2 (grid0.coords t) 2 * 2048 + j.val = v.val; rw [hx.2.2]; omega

theorem size_3 : ∀ i : grid0.Coords, win0_3.xsize i 0 = 1 ∧ win0_3.xsize i 1 = min 2048 (151936 - 2048 * (i 0).val) := by decide +kernel
theorem index_3 : ∀ i : grid0.Coords, cc0_transform_3 i 0 = 0 ∧ cc0_transform_3 i 1 = (i 0).val := by decide +kernel
/-- Tile 3 inside the array. -/
theorem tile3_apply (c : Dev nD) (t : Fin grid0.N) (j : Fin 2048) (v : Fin 151936) (h : v.val = 2048 * t.val + j.val) :
    tile3 m c t (ix2 0 j) = V m c main_v0 (ix2 0 v) := by
  have hv := v.isLt
  have hj := j.isLt
  have hc := coords_val t
  have hz := size_3 (grid0.coords t)
  have hx := index_3 (grid0.coords t)
  rw [hc] at hz hx
  have hm : win0_3.moved (grid0.coords t) (ix2 0 j) = true := (win0_3.moved_iff _ _).mpr fun a => by
    match a with
    | ⟨0, _⟩ => show 0 < win0_3.xsize (grid0.coords t) 0; rw [hz.1]; omega
    | ⟨1, _⟩ => show j.val < win0_3.xsize (grid0.coords t) 1; rw [hz.2]; omega
  unfold tile3 Window.fill
  rw [dif_pos hm]
  change V m c main_v0 ((win0_3.rect t).emb _) = _
  refine congrArg _ (funext fun a => Fin.ext ?_)
  rw [win0_3.rect_emb_val]
  match a with
  | ⟨0, _⟩ => show cc0_transform_3 (grid0.coords t) 0 * 1 + 0 = 0; rw [hx.1]
  | ⟨1, _⟩ => show cc0_transform_3 (grid0.coords t) 1 * 2048 + j.val = v.val; rw [hx.2]; omega

theorem size_4 : ∀ i : grid0.Coords, win0_4.xsize i 0 = min 2048 (151936 - 2048 * (i 0).val) ∧ win0_4.xsize i 1 = 896 := by decide +kernel
theorem index_4 : ∀ i : grid0.Coords, cc0_transform_4 i 0 = (i 0).val ∧ cc0_transform_4 i 1 = 0 := by decide +kernel
/-- Tile 4 inside the array. -/
theorem tile4_apply (c : Dev nD) (t : Fin grid0.N) (j : Fin 2048) (i : Fin 896) (v : Fin 151936) (h : v.val = 2048 * t.val + j.val) :
    tile4 m c t (ix2 j i) = V m c main_arg4 (ix2 v i) := by
  have hv := v.isLt
  have hj := j.isLt
  have hc := coords_val t
  have hz := size_4 (grid0.coords t)
  have hx := index_4 (grid0.coords t)
  rw [hc] at hz hx
  have hm : win0_4.moved (grid0.coords t) (ix2 j i) = true := (win0_4.moved_iff _ _).mpr fun a => by
    match a with
    | ⟨0, _⟩ => show j.val < win0_4.xsize (grid0.coords t) 0; rw [hz.1]; omega
    | ⟨1, _⟩ => show i.val < win0_4.xsize (grid0.coords t) 1; rw [hz.2]; exact i.isLt
  unfold tile4 Window.fill
  rw [dif_pos hm]
  change V m c main_arg4 ((win0_4.rect t).emb _) = _
  refine congrArg _ (funext fun a => Fin.ext ?_)
  rw [win0_4.rect_emb_val]
  match a with
  | ⟨0, _⟩ => show cc0_transform_4 (grid0.coords t) 0 * 2048 + j.val = v.val; rw [hx.1]; omega
  | ⟨1, _⟩ => show cc0_transform_4 (grid0.coords t) 1 * 896 + i.val = i.val; rw [hx.2]; omega

/-! The loads of a tile's parts. -/

theorem halfA_apply (X : S1x256x2048.Idx → Elt F .fp8e5m2) (p : Fin 128) (j : Fin 2048) : halfA (F := F) X (ix3 0 p j) = X (ix3 0 ⟨p.val, by omega⟩ j) := by
  change X ((Rect.unit (s := S1x256x2048) ![0, 0, 0] S1x128x2048.size inb_S1x256x2048_S1x128x2048_0_0_0).idx (ix3 0 p j)) = _
  refine congrArg X (funext fun a => Fin.ext ?_)
  rw [Rect.idx_unit_val]
  match a with
  | ⟨0, _⟩ => show 0 + 0 = 0; omega
  | ⟨1, _⟩ => show 0 + p.val = p.val; omega
  | ⟨2, _⟩ => show 0 + j.val = j.val; omega

theorem halfB_apply (X : S1x256x2048.Idx → Elt F .fp8e5m2) (p : Fin 128) (j : Fin 2048) : halfB (F := F) X (ix3 0 p j) = X (ix3 0 ⟨128 + p.val, by omega⟩ j) := by
  change X ((Rect.unit (s := S1x256x2048) ![0, 128, 0] S1x128x2048.size inb_S1x256x2048_S1x128x2048_0_128_0).idx (ix3 0 p j)) = _
  refine congrArg X (funext fun a => Fin.ext ?_)
  rw [Rect.idx_unit_val]
  match a with
  | ⟨0, _⟩ => show 0 + 0 = 0; omega
  | ⟨1, _⟩ => show 128 + p.val = 128 + p.val; omega
  | ⟨2, _⟩ => show 0 + j.val = j.val; omega

theorem cutA_apply (X : S1x256x2048.Idx → Elt F .fp8e5m2) (p : Fin 128) (j : Fin 384) : cutA (F := F) X (ix3 0 p j) = X (ix3 0 ⟨p.val, by omega⟩ ⟨j.val, by omega⟩) := by
  change X ((Rect.unit (s := S1x256x2048) ![0, 0, 0] S1x128x384.size inb_S1x256x2048_S1x128x384_0_0_0).idx (ix3 0 p j)) = _
  refine congrArg X (funext fun a => Fin.ext ?_)
  rw [Rect.idx_unit_val]
  match a with
  | ⟨0, _⟩ => show 0 + 0 = 0; omega
  | ⟨1, _⟩ => show 0 + p.val = p.val; omega
  | ⟨2, _⟩ => show 0 + j.val = j.val; omega

theorem cutB_apply (X : S1x256x2048.Idx → Elt F .fp8e5m2) (p : Fin 128) (j : Fin 384) : cutB (F := F) X (ix3 0 p j) = X (ix3 0 ⟨128 + p.val, by omega⟩ ⟨j.val, by omega⟩) := by
  change X ((Rect.unit (s := S1x256x2048) ![0, 128, 0] S1x128x384.size inb_S1x256x2048_S1x128x384_0_128_0).idx (ix3 0 p j)) = _
  refine congrArg X (funext fun a => Fin.ext ?_)
  rw [Rect.idx_unit_val]
  match a with
  | ⟨0, _⟩ => show 0 + 0 = 0; omega
  | ⟨1, _⟩ => show 128 + p.val = 128 + p.val; omega
  | ⟨2, _⟩ => show 0 + j.val = j.val; omega

theorem cut3_apply (X : S1x2x2048.Idx → Elt F .f32) (p : Fin 2) (j : Fin 384) : cut3 (F := F) X (ix3 0 p j) = X (ix3 0 p ⟨j.val, by omega⟩) := by
  change X ((Rect.unit (s := S1x2x2048) ![0, 0, 0] S1x2x384.size inb_S1x2x2048_S1x2x384_0_0_0).idx (ix3 0 p j)) = _
  refine congrArg X (funext fun a => Fin.ext ?_)
  rw [Rect.idx_unit_val]
  match a with
  | ⟨0, _⟩ => show 0 + 0 = 0; omega
  | ⟨1, _⟩ => show 0 + p.val = p.val; omega
  | ⟨2, _⟩ => show 0 + j.val = j.val; omega

theorem cut4_apply (X : S1x2048.Idx → Elt F .f32) (j : Fin 384) : cut4 (F := F) X (ix2 0 j) = X (ix2 0 ⟨j.val, by omega⟩) := by
  change X ((Rect.unit (s := S1x2048) ![0, 0] S1x384.size inb_S1x2048_S1x384_0_0).idx (ix2 0 j)) = _
  refine congrArg X (funext fun a => Fin.ext ?_)
  rw [Rect.idx_unit_val]
  match a with
  | ⟨0, _⟩ => show 0 + 0 = 0; omega
  | ⟨1, _⟩ => show 0 + j.val = j.val; omega

theorem cut5_apply (X : S2048x896.Idx → Elt F .i8) (j : Fin 384) (i : Fin 896) : cut5 (F := F) X (ix2 j i) = X (ix2 ⟨j.val, by omega⟩ i) := by
  change X ((Rect.unit (s := S2048x896) ![0, 0] S384x896.size inb_S2048x896_S384x896_0_0).idx (ix2 j i)) = _
  refine congrArg X (funext fun a => Fin.ext ?_)
  rw [Rect.idx_unit_val]
  match a with
  | ⟨0, _⟩ => show 0 + j.val = j.val; omega
  | ⟨1, _⟩ => show 0 + i.val = i.val; omega

/-- The reshaped scales are the argument's. -/
theorem V_v0_apply (c : Dev nD) (v : Fin 151936) :
    V m c main_v0 (ix2 0 v) = m ((c : Thread nD τ).loc main_arg5) (ix1 v) := by
  change shapeCast S1x151936 (m ((c : Thread nD τ).loc main_arg5)) shapeCasts_S151936_S1x151936 (ix2 0 v) = _
  exact shapeCast_apply _ _ _ (ix1 v) (by
    rw [Shape.rowMajor_val_one, Shape.rowMajor_val_two]
    show v.val = 0 * 151936 + v.val
    omega)

end Cert.Proof.KI

end
-- ==== Proof.KI.Sums.lean ====
/-
  The two results over the extended reals: the running sum after all the tiles, and the tile each point leaves.
-/
module

public import proofs.«01_k».proof.Proof.KI.Tiles

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.ShloMosaic.Pipeline (Dat Cfg Window)
open Cert.Own Cert.Link Cert.Spec
open scoped BigOperators

variable (m : (ℓ : Loc nD τ sig) → Buf (Elt Ideal) ℓ)

/-- The arguments' elements. -/
abbrev dlC (c : Dev nD) : S1x256x151936.Idx → EReal := m ((c : Thread nD τ).loc main_arg0)
abbrev dlsC (c : Dev nD) : S1x2x151936.Idx → EReal := m ((c : Thread nD τ).loc main_arg1)
abbrev hC (c : Dev nD) : S1x256x896.Idx → EReal := m ((c : Thread nD τ).loc main_arg2)
abbrev hsC (c : Dev nD) : S1x256.Idx → EReal := m ((c : Thread nD τ).loc main_arg3)
abbrev eC (c : Dev nD) : S151936x896.Idx → EReal := fun i => FloatOps.sitofp (F := Ideal) .bf16 (m ((c : Thread nD τ).loc main_arg4) i)
abbrev esC (c : Dev nD) : S151936.Idx → EReal := m ((c : Thread nD τ).loc main_arg5)
abbrev idsC (c : Dev nD) : S1x256.Idx → BitVec 32 := m ((c : Thread nD τ).loc main_arg6)
abbrev dembC (c : Dev nD) : S1x256x896.Idx → EReal := m ((c : Thread nD τ).loc main_arg7)

/-- One row's term of the first result's sum, zero past the table's end. -/
def term (c : Dev nD) (s : Fin 256) (i : Fin 896) (v : ℕ) : EReal :=
  if h : v < 151936 then D (dlC m c) (dlsC m c) s ⟨v, h⟩ * esC m c (ix1 ⟨v, h⟩) * eC m c (ix2 ⟨v, h⟩ i) else 0

theorem term_eq (c : Dev nD) (s : Fin 256) (i : Fin 896) (n : ℕ) (h : n < 151936) (x : EReal)
    (hx : x = D (dlC m c) (dlsC m c) s ⟨n, h⟩ * esC m c (ix1 ⟨n, h⟩) * eC m c (ix2 ⟨n, h⟩ i)) : x = term m c s i n := by
  unfold term; rw [dif_pos h]; exact hx

theorem acc_succ_eq (f : ℕ → EReal) (a n k : ℕ) (x y : EReal) (hx : x = ∑ v ∈ Finset.range a, f v)
    (hy : y = ∑ j : Fin k, f (a + j.val)) (hn : n = a + k) : x + y = ∑ v ∈ Finset.range n, f v := by
  rw [hn, Finset.sum_range_add, hx, hy, Finset.sum_range (fun x => f (a + x))]

theorem argV0 (c : Dev nD) : V m c main_arg0 = m ((c : Thread nD τ).loc main_arg0) := V_arg m c main_arg0 (by decide)
theorem argV1 (c : Dev nD) : V m c main_arg1 = m ((c : Thread nD τ).loc main_arg1) := V_arg m c main_arg1 (by decide)
theorem argV2 (c : Dev nD) : V m c main_arg2 = m ((c : Thread nD τ).loc main_arg2) := V_arg m c main_arg2 (by decide)
theorem argV3 (c : Dev nD) : V m c main_arg3 = m ((c : Thread nD τ).loc main_arg3) := V_arg m c main_arg3 (by decide)
theorem argV4 (c : Dev nD) : V m c main_arg4 = m ((c : Thread nD τ).loc main_arg4) := V_arg m c main_arg4 (by decide)
theorem argV6 (c : Dev nD) : V m c main_arg6 = m ((c : Thread nD τ).loc main_arg6) := V_arg m c main_arg6 (by decide)
theorem argV7 (c : Dev nD) : V m c main_arg7 = m ((c : Thread nD τ).loc main_arg7) := V_arg m c main_arg7 (by decide)

/-- The first result's sum after `n` whole tiles. -/
theorem accAt_apply (c : Dev nD) (s : Fin 256) (i : Fin 896) : ∀ n, n ≤ 74 →
    accAt m c n (ix2 s i) = ∑ v ∈ Finset.range (2048 * n), term m c s i v
  | 0, _ => by
    rw [Nat.mul_zero, Finset.range_zero, Finset.sum_empty]
    exact Ideal.ofBits_zero_f32
  | n + 1, hn => by
    have hn' : n < 74 := by omega
    have hN : n < grid0.N := by rw [N_0]; omega
    have e : accAt m c (n + 1) = k0_pay3 (tile2 m c ⟨n, hN⟩) (halfA (tile1 m c ⟨n, hN⟩)) (halfB (tile1 m c ⟨n, hN⟩)) (tile3 m c ⟨n, hN⟩)
        (accAt m c n) (tile4 m c ⟨n, hN⟩) := dif_pos hn'
    rw [e]
    refine (overRows_2048 (tile2 m c ⟨n, hN⟩) (halfA (tile1 m c ⟨n, hN⟩)) (halfB (tile1 m c ⟨n, hN⟩)) (tile3 m c ⟨n, hN⟩)
      (accAt m c n) (tile4 m c ⟨n, hN⟩) s i
      (fun s j => dlC m c (ix3 0 s ⟨2048 * n + j.val, by omega⟩)) (fun q j => dlsC m c (ix3 0 q ⟨2048 * n + j.val, by omega⟩))
      (fun p j => ?_) (fun p j => ?_) (fun q j => ?_)).trans ?_
    · rw [halfA_apply]
      exact (tile1_apply m c ⟨n, hN⟩ _ j ⟨2048 * n + j.val, by omega⟩ rfl).trans (congrFun (argV0 m c) _)
    · rw [halfB_apply]
      exact (tile1_apply m c ⟨n, hN⟩ _ j ⟨2048 * n + j.val, by omega⟩ rfl).trans (congrFun (argV0 m c) _)
    · exact (tile2_apply m c ⟨n, hN⟩ q j ⟨2048 * n + j.val, by omega⟩ rfl).trans (congrFun (argV1 m c) _)
    · refine acc_succ_eq (term m c s i) (2048 * n) _ 2048 _ _ (accAt_apply c s i n (by omega)) (Finset.sum_congr rfl fun j _ => ?_) (by omega)
      refine term_eq m c s i _ (by omega) _ ?_
      rw [tile3_apply m c ⟨n, hN⟩ j ⟨2048 * n + j.val, by omega⟩ rfl, tile4_apply m c ⟨n, hN⟩ j i ⟨2048 * n + j.val, by omega⟩ rfl,
        V_v0_apply, argV4]
      rfl

/-- The first result's sum after all the tiles. -/
theorem accAt_all (c : Dev nD) (s : Fin 256) (i : Fin 896) :
    accAt m c 75 (ix2 s i) = dH (dlC m c) (dlsC m c) (eC m c) (esC m c) s i := by
  have hN : 74 < grid0.N := by rw [N_0]; omega
  have e : accAt m c 75 = k0_pay19 (cut3 (tile2 m c ⟨74, hN⟩)) (cutA (tile1 m c ⟨74, hN⟩)) (cutB (tile1 m c ⟨74, hN⟩)) (cut4 (tile3 m c ⟨74, hN⟩))
      (accAt m c 74) (cut5 (tile4 m c ⟨74, hN⟩)) := dif_neg (by decide)
  rw [e]
  refine (overRows_384 (cut3 (tile2 m c ⟨74, hN⟩)) (cutA (tile1 m c ⟨74, hN⟩)) (cutB (tile1 m c ⟨74, hN⟩)) (cut4 (tile3 m c ⟨74, hN⟩))
    (accAt m c 74) (cut5 (tile4 m c ⟨74, hN⟩)) s i
    (fun s j => dlC m c (ix3 0 s ⟨2048 * 74 + j.val, by omega⟩)) (fun q j => dlsC m c (ix3 0 q ⟨2048 * 74 + j.val, by omega⟩))
    (fun p j => ?_) (fun p j => ?_) (fun q j => ?_)).trans ?_
  · rw [cutA_apply]
    exact (tile1_apply m c ⟨74, hN⟩ _ _ ⟨2048 * 74 + j.val, by omega⟩ rfl).trans (congrFun (argV0 m c) _)
  · rw [cutB_apply]
    exact (tile1_apply m c ⟨74, hN⟩ _ _ ⟨2048 * 74 + j.val, by omega⟩ rfl).trans (congrFun (argV0 m c) _)
  · rw [cut3_apply]
    exact (tile2_apply m c ⟨74, hN⟩ q _ ⟨2048 * 74 + j.val, by omega⟩ rfl).trans (congrFun (argV1 m c) _)
  · refine (acc_succ_eq (term m c s i) (2048 * 74) 151936 384 _ _ (accAt_apply m c s i 74 (le_refl _)) (Finset.sum_congr rfl fun j _ => ?_) rfl).trans ?_
    · refine term_eq m c s i _ (by omega) _ ?_
      rw [cut4_apply, cut5_apply, tile3_apply m c ⟨74, hN⟩ _ ⟨2048 * 74 + j.val, by omega⟩ rfl,
        tile4_apply m c ⟨74, hN⟩ _ i ⟨2048 * 74 + j.val, by omega⟩ rfl, V_v0_apply, argV4]
      rfl
    · rw [Finset.sum_range]
      refine Finset.sum_congr rfl fun v _ => ?_
      exact dif_pos v.isLt

theorem hhC_apply (c : Dev nD) (s : Fin 256) (i : Fin 896) : hhC m c (ix2 s i) = H (hC m c) (hsC m c) s i := by
  show hhOf (V m c main_arg2) (V m c main_arg3) (ix2 s i) = _
  rw [argV2, argV3]; rfl

theorem tabC_apply (c : Dev nD) (t : Fin 256) (i : Fin 896) : tabC m c (ix2 t i) = dembC m c (ix3 0 t i) := by
  show k0_pay7 (V m c main_arg7) (ix2 t i) = _
  rw [argV7]
  unfold k0_pay7
  rw [shapeCast_self, extf_apply, shapeCast_1ab_ab_apply]

/-- The product over the entries, at a row inside the table. -/
theorem deAt_apply (c : Dev nD) (t : Fin grid0.N) (j : Fin 2048) (i : Fin 896) (v : Fin 151936) (h : v.val = 2048 * t.val + j.val) :
    deAt m c t (ix2 j i) = ∑ s : Fin 256, D (dlC m c) (dlsC m c) s v * H (hC m c) (hsC m c) s i := by
  have hv := v.isLt
  unfold deAt
  split
  · refine (overEntries_2048 (tile2 m c t) (halfA (tile1 m c t)) (halfB (tile1 m c t)) (hhC m c) j i
      (fun s => dlC m c (ix3 0 s v)) (fun q => dlsC m c (ix3 0 q v)) (fun p => ?_) (fun p => ?_) (fun q => ?_)).trans ?_
    · rw [halfA_apply]; exact (tile1_apply m c t _ j v h).trans (congrFun (argV0 m c) _)
    · rw [halfB_apply]; exact (tile1_apply m c t _ j v h).trans (congrFun (argV0 m c) _)
    · exact (tile2_apply m c t q j v h).trans (congrFun (argV1 m c) _)
    · refine Finset.sum_congr rfl fun s _ => ?_
      rw [hhC_apply]; rfl
  · rename_i ht
    have htN := t.isLt
    have hN := N_0
    have h' : j.val < 384 := by omega
    have hy : ∀ a : Fin 2, ((ix2 j i : S2048x896.Idx) a).val
        = (![0, 0] : Fin 2 → Nat) a + ((ix2 (⟨j.val, h'⟩ : Fin 384) i : S384x896.Idx) a).val := fun a => by
      match a with
      | ⟨0, _⟩ => exact (Nat.zero_add _).symm
      | ⟨1, _⟩ => exact (Nat.zero_add _).symm
    refine (overlay_unit_of_mem (Val := Elt Ideal) (e := .f32) (s := S2048x896) inb_S2048x896_S384x896_0_0 _ _ (ix2 (⟨j.val, h'⟩ : Fin 384) i) (ix2 j i) hy).trans ?_
    refine (overEntries_384 (cut3 (tile2 m c t)) (cutA (tile1 m c t)) (cutB (tile1 m c t)) (hhC m c) ⟨j.val, h'⟩ i
      (fun s => dlC m c (ix3 0 s v)) (fun q => dlsC m c (ix3 0 q v)) (fun p => ?_) (fun p => ?_) (fun q => ?_)).trans ?_
    · rw [cutA_apply]; exact (tile1_apply m c t _ _ v h).trans (congrFun (argV0 m c) _)
    · rw [cutB_apply]; exact (tile1_apply m c t _ _ v h).trans (congrFun (argV0 m c) _)
    · rw [cut3_apply]; exact (tile2_apply m c t q _ v h).trans (congrFun (argV1 m c) _)
    · refine Finset.sum_congr rfl fun s _ => ?_
      rw [hhC_apply]; rfl

/-- The tile of the second result that a point leaves, at a row inside the table. -/
theorem outAt_apply (c : Dev nD) (t : Fin grid0.N) (j : Fin 2048) (i : Fin 896) (v : Fin 151936) (h : v.val = 2048 * t.val + j.val) :
    outAt m c t (ix2 j i) = dE (dlC m c) (dlsC m c) (hC m c) (hsC m c) (idsC m c) (dembC m c) v i := by
  unfold outAt dE
  refine (fold_apply (idsOf m c) (tabC m c) t.val j i 256 (le_refl _) (deAt m c t)).trans ?_
  rw [deAt_apply m c t j i v h, h, show idsOf m c = idsC m c from argV6 m c]
  refine congrArg (_ + ·) (Finset.sum_congr rfl fun s _ => ?_)
  rw [tabC_apply]

end Cert.Proof.KI

end
-- ==== Proof.KI.Final.lean ====
/-
  What the kernel leaves in its two results, over the extended reals, element by element.
-/
module

public import proofs.«01_k».proof.Proof.KI.Sums

@[expose] public section

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.ShloMosaic.Pipeline (Dat Cfg Window)
open Cert.Own Cert.Link Cert.Spec
open scoped BigOperators

variable (m : (ℓ : Loc nD τ sig) → Buf (Elt Ideal) ℓ)

/-- The table's gradient, as an array. -/
def G8 (c : Dev nD) : S151936x896.Idx → EReal := fun i => dE (dlC m c) (dlsC m c) (hC m c) (hsC m c) (idsC m c) (dembC m c) (i 0) (i 1)
/-- The hidden gradient, as an array. -/
def G9 (c : Dev nD) : S1x256x896.Idx → EReal := fun i => dH (dlC m c) (dlsC m c) (eC m c) (esC m c) (i 1) (i 2)

theorem size_8 : ∀ i : grid0.Coords, win0_8.xsize i 0 = min 2048 (151936 - 2048 * (i 0).val) ∧ win0_8.xsize i 1 = 896 := by decide +kernel
theorem index_8 : ∀ i : grid0.Coords, cc0_transform_8 i 0 = (i 0).val ∧ cc0_transform_8 i 1 = 0 := by decide +kernel
theorem index_9 : ∀ i : grid0.Coords, cc0_transform_9 i 0 = 0 ∧ cc0_transform_9 i 1 = 0 ∧ cc0_transform_9 i 2 = 0 := by decide +kernel

/-- The kernel's first result buffer after the run: the table's gradient. -/
theorem final8 (c : Dev nD) : finalA m c (8 : Fin 10) = G8 m c := by
  refine (dats m 0 c).arrAt_eq_of_cover (8 : Fin 10) (G8 m c) (fun t _ => ?_) (fun i => ?_)
  · funext y
    have hc := coords_val t
    have hz := size_8 (grid0.coords t)
    have hx := index_8 (grid0.coords t)
    rw [hc] at hz hx
    have h0 : (y 0).val < min 2048 (151936 - 2048 * t.val) := hz.1 ▸ (y 0).isLt
    have h1 : (y 1).val < 896 := hz.2 ▸ (y 1).isLt
    have ey : win0_8.xinj (grid0.coords t) y = ix2 (⟨(y 0).val, by omega⟩ : Fin 2048) (⟨(y 1).val, h1⟩ : Fin 896) := by
      funext a; apply Fin.ext
      match a with
      | ⟨0, _⟩ => rfl
      | ⟨1, _⟩ => rfl
    have ee : (win0_8.rect t).emb y = ix2 (⟨2048 * t.val + (y 0).val, by omega⟩ : Fin 151936) (⟨(y 1).val, h1⟩ : Fin 896) := by
      funext a; apply Fin.ext
      rw [win0_8.rect_emb_val]
      match a with
      | ⟨0, _⟩ => show cc0_transform_8 (grid0.coords t) 0 * 2048 + (y 0).val = 2048 * t.val + (y 0).val; rw [hx.1]; omega
      | ⟨1, _⟩ => show cc0_transform_8 (grid0.coords t) 1 * 896 + (y 1).val = (y 1).val; rw [hx.2]; omega
    change outAt m c t (win0_8.xinj (grid0.coords t) y) = G8 m c ((win0_8.rect t).emb y)
    rw [ey, ee]
    exact outAt_apply m c t _ _ ⟨2048 * t.val + (y 0).val, by omega⟩ rfl
  · have hi0 : (i 0).val < 151936 := (i 0).isLt
    have hi1 : (i 1).val < 896 := (i 1).isLt
    have hN : (i 0).val / 2048 < grid0.N := by rw [N_0]; omega
    refine ⟨⟨(i 0).val / 2048, hN⟩, flush0_8 (F := Ideal) _, ?_⟩
    have hc := coords_val ⟨(i 0).val / 2048, hN⟩
    have hz := size_8 (grid0.coords ⟨(i 0).val / 2048, hN⟩)
    have hx := index_8 (grid0.coords ⟨(i 0).val / 2048, hN⟩)
    rw [hc] at hz hx
    show i ∈ ((View.whole main_v1_0).slice (win0_8.rect ⟨(i 0).val / 2048, hN⟩)).set
    rw [View.set_slice_whole, Rect.mem_set_unit]
    intro a
    match a with
    | ⟨0, _⟩ =>
      show cc0_transform_8 (grid0.coords ⟨(i 0).val / 2048, hN⟩) 0 * 2048 ≤ (i 0).val
        ∧ (i 0).val < cc0_transform_8 (grid0.coords ⟨(i 0).val / 2048, hN⟩) 0 * 2048 + win0_8.xsize (grid0.coords ⟨(i 0).val / 2048, hN⟩) 0
      rw [hx.1, hz.1]
      show (i 0).val / 2048 * 2048 ≤ (i 0).val ∧ (i 0).val < (i 0).val / 2048 * 2048 + min 2048 (151936 - 2048 * ((i 0).val / 2048))
      omega
    | ⟨1, _⟩ =>
      show cc0_transform_8 (grid0.coords ⟨(i 0).val / 2048, hN⟩) 1 * 896 ≤ (i 1).val
        ∧ (i 1).val < cc0_transform_8 (grid0.coords ⟨(i 0).val / 2048, hN⟩) 1 * 896 + win0_8.xsize (grid0.coords ⟨(i 0).val / 2048, hN⟩) 1
      rw [hx.2, hz.2]; omega

/-- The kernel's second result buffer after the run: the hidden gradient. -/
theorem final9 (c : Dev nD) : finalA m c (9 : Fin 10) = G9 m c := by
  refine (dats m 0 c).arrAt_eq_of_cover (9 : Fin 10) (G9 m c) (fun t _ => ?_) (fun i => ?_)
  · funext y
    have hx := index_9 (grid0.coords t)
    have h0 : (y 0).val < 1 := (y 0).isLt
    have h1 : (y 1).val < 256 := (y 1).isLt
    have h2 : (y 2).val < 896 := (y 2).isLt
    have ey : win0_9.xinj (grid0.coords t) y = ix3 (0 : Fin 1) (⟨(y 1).val, h1⟩ : Fin 256) (⟨(y 2).val, h2⟩ : Fin 896) := by
      funext a; apply Fin.ext
      match a with
      | ⟨0, _⟩ => show (y 0).val = 0; omega
      | ⟨1, _⟩ => rfl
      | ⟨2, _⟩ => rfl
    have ee : (win0_9.rect t).emb y = ix3 (0 : Fin 1) (⟨(y 1).val, h1⟩ : Fin 256) (⟨(y 2).val, h2⟩ : Fin 896) := by
      funext a; apply Fin.ext
      rw [win0_9.rect_emb_val]
      match a with
      | ⟨0, _⟩ => show cc0_transform_9 (grid0.coords t) 0 * 1 + (y 0).val = 0; rw [hx.1]; omega
      | ⟨1, _⟩ => show cc0_transform_9 (grid0.coords t) 1 * 256 + (y 1).val = (y 1).val; rw [hx.2.1]; omega
      | ⟨2, _⟩ => show cc0_transform_9 (grid0.coords t) 2 * 896 + (y 2).val = (y 2).val; rw [hx.2.2]; omega
    have e : (dats m 0 c).after (9 : Fin 10) t = k0_pay4 (accAt m c 75) := by dsimp only [dats]
    obtain ⟨X, hX⟩ : ∃ X, X = accAt m c 75 := ⟨_, rfl⟩
    rw [← hX] at e
    have hf : (dats m 0 c).flushed (9 : Fin 10) t = win0_9.cut (grid0.coords t) (k0_pay4 X) := congrArg (win0_9.cut (grid0.coords t)) e
    refine (congrFun hf y).trans ?_
    have key : ∀ G : S1x256x896.Idx → Elt Ideal .bf16,
        (((cfg0 (F := Ideal)).win (9 : Fin 10)).blk t).view.read (Elt Ideal) G y = G ((win0_9.rect t).emb y) := fun _ => rfl
    refine Eq.trans ?_ (key (G9 m c)).symm
    rw [ee]
    refine (congrArg (k0_pay4 X) ey).trans ?_
    unfold k0_pay4
    rw [shapeCast_ab_1ab_apply, truncf_apply, hX]
    exact accAt_all m c _ _
  · have hN : 74 < grid0.N := by rw [N_0]; omega
    refine ⟨⟨74, hN⟩, (flush0_9 (F := Ideal) ⟨74, hN⟩).mpr rfl, ?_⟩
    have hx := index_9 (grid0.coords ⟨74, hN⟩)
    have h0 : (i 0).val < 1 := (i 0).isLt
    have h1 : (i 1).val < 256 := (i 1).isLt
    have h2 : (i 2).val < 896 := (i 2).isLt
    show i ∈ ((View.whole main_v1_1).slice (win0_9.rect ⟨74, hN⟩)).set
    rw [View.set_slice_whole, Rect.mem_set_unit]
    intro a
    match a with
    | ⟨0, _⟩ =>
      show cc0_transform_9 (grid0.coords ⟨74, hN⟩) 0 * 1 ≤ (i 0).val ∧ (i 0).val < cc0_transform_9 (grid0.coords ⟨74, hN⟩) 0 * 1 + 1
      rw [hx.1]; omega
    | ⟨1, _⟩ =>
      show cc0_transform_9 (grid0.coords ⟨74, hN⟩) 1 * 256 ≤ (i 1).val ∧ (i 1).val < cc0_transform_9 (grid0.coords ⟨74, hN⟩) 1 * 256 + 256
      rw [hx.2.1]; omega
    | ⟨2, _⟩ =>
      show cc0_transform_9 (grid0.coords ⟨74, hN⟩) 2 * 896 ≤ (i 2).val ∧ (i 2).val < cc0_transform_9 (grid0.coords ⟨74, hN⟩) 2 * 896 + 896
      rw [hx.2.2]; omega

end Cert.Proof.KI

end
-- ==== Proof.RI.Sums.lean ====
/-
  The reference's two results over the extended reals, element by element.
-/
module

public import proofs.«01_k».proof.Proof.Gen.ReferenceIdeal.Read
public import proofs.«01_k».proof.Proof.Spec
public import Idealize.ShloMosaic.Lib.TwoAxisContraction

@[expose] public section

noncomputable section

namespace Cert.Proof.RI

open Cert.ReferenceIdeal Cert.ReferenceIdeal.Gen Cert.ReferenceIdeal.Read
open Idealize.ShloMosaic Idealize.ShloMosaic.ValueIdx
open Cert.Link Cert.Spec
open scoped BigOperators

/-- The scaled logit gradient. -/
theorem v6_at (x1 : S1x2x151936.Idx → EReal) (r0 : S1x256x151936.Idx → EReal) (s : Fin 256) (v : Fin 151936) :
    val_main_v6 (F := Ideal) x1 r0 (ix3 0 s v) = D r0 x1 s v := by
  have hs := s.isLt
  have hv := v.isLt
  rw [val_main_v6_apply, val_main_v5_apply, val_main_v1_apply, val_main_v4_apply, val_main_v3_apply, val_main_v2_apply]
  refine congrArg₂ (fun a b : EReal => a * b) (congrArg r0 ?_) (congrArg x1 ?_)
  · funext a; apply Fin.ext
    match a with
    | ⟨0, _⟩ => rfl
    | ⟨1, _⟩ =>
      show ((((0 * 2 + (((0 * 256 + s.val) * 151936 + v.val) / 19447808 % 2)) * 128 + (((0 * 256 + s.val) * 151936 + v.val) / 151936 % 128)) * 151936
        + (((0 * 256 + s.val) * 151936 + v.val) % 151936)) / 151936 % 256) = s.val
      omega
    | ⟨2, _⟩ =>
      show ((((0 * 2 + (((0 * 256 + s.val) * 151936 + v.val) / 19447808 % 2)) * 128 + (((0 * 256 + s.val) * 151936 + v.val) / 151936 % 128)) * 151936
        + (((0 * 256 + s.val) * 151936 + v.val) % 151936)) % 151936) = v.val
      omega
  · funext a; apply Fin.ext
    match a with
    | ⟨0, _⟩ => rfl
    | ⟨1, _⟩ =>
      show ((0 * 256 + s.val) * 151936 + v.val) / 19447808 % 2 = s.val / 128
      omega
    | ⟨2, _⟩ =>
      show ((0 * 256 + s.val) * 151936 + v.val) % 151936 = v.val
      omega

/-- The scaled hidden values. -/
theorem v10_at (x3 : S1x256.Idx → EReal) (r1 : S1x256x896.Idx → EReal) (s : Fin 256) (j : Fin 896) :
    val_main_v10 (F := Ideal) x3 r1 (ix3 0 s j) = H r1 x3 s j := by
  rw [val_main_v10_apply, val_main_v9_apply, val_main_v8_apply, val_main_v7_apply]
  refine congrArg₂ (fun a b : EReal => a * b) rfl (congrArg x3 ?_)
  funext a; apply Fin.ext
  match a with
  | ⟨0, _⟩ => rfl
  | ⟨1, _⟩ => rfl

/-- The product over the entries. -/
theorem v11_at (x1 : S1x2x151936.Idx → EReal) (x3 : S1x256.Idx → EReal) (r0 : S1x256x151936.Idx → EReal) (r1 : S1x256x896.Idx → EReal)
    (v : Fin 151936) (j : Fin 896) :
    val_main_v11 (F := Ideal) x1 x3 r0 r1 (ix2 v j) = ∑ s : Fin 256, D r0 x1 s v * H r1 x3 s j := by
  let Q := dot_S1x256x151936_S1x256x896_S151936x896_01_01_2_2_n_n
  have hr : Q.contr.rank = 2 := rfl
  have c0 : Q.contr.size ⟨0, by omega⟩ = 1 := rfl
  have c1 : Q.contr.size ⟨1, by omega⟩ = 256 := rfl
  unfold val_main_v11
  simp only [Host.dotGeneral]
  refine (Ideal.dotGeneral_apply (φ₁ := .bf16) (φ₂ := .bf16) Q none .single (val_main_v6 (F := Ideal) x1 r0) (val_main_v10 (F := Ideal) x3 r1) (ix2 v j)).trans ?_
  rw [← Equiv.sum_comp (contrEquiv2 Q 1 256 hr c0 c1).symm, Fintype.sum_prod_type, Fin.sum_univ_one]
  refine Finset.sum_congr rfl fun s _ => ?_
  have h0 := contrEquiv2_symm_val0 Q 1 256 hr c0 c1 (0, s)
  have h1 := contrEquiv2_symm_val1 Q 1 256 hr c0 c1 (0, s)
  have el : Q.lhsIdx (ix2 v j) ((contrEquiv2 Q 1 256 hr c0 c1).symm (0, s)) = ix3 0 s v := by
    funext a; apply Fin.ext
    match a with
    | ⟨0, _⟩ => exact h0
    | ⟨1, _⟩ => exact h1
    | ⟨2, _⟩ => rfl
  have er : Q.rhsIdx (ix2 v j) ((contrEquiv2 Q 1 256 hr c0 c1).symm (0, s)) = ix3 0 s j := by
    funext a; apply Fin.ext
    match a with
    | ⟨0, _⟩ => exact h0
    | ⟨1, _⟩ => exact h1
    | ⟨2, _⟩ => rfl
  refine congrArg₂ (fun a b : EReal => a * b) ((congrArg _ el).trans (v6_at x1 r0 s v)) ((congrArg _ er).trans (v10_at x3 r1 s j))

/-- The hidden gradient. -/
theorem v27_at (x1 : S1x2x151936.Idx → EReal) (x5 : S151936.Idx → EReal) (r0 : S1x256x151936.Idx → EReal) (r2 : S151936x896.Idx → EReal)
    (s : Fin 256) (j : Fin 896) :
    val_main_v27 (F := Ideal) x1 x5 r0 r2 (ix3 0 s j) = dH r0 x1 r2 x5 s j := by
  rw [val_main_v27_apply]
  refine (val_main_v26_apply x1 x5 r0 r2 (ix3 0 s j)).trans ?_
  refine Finset.sum_congr rfl fun v _ => ?_
  have el : lidx_main_v26 (ix3 0 s j) v = ix3 0 s v := by
    funext a; apply Fin.ext
    match a with
    | ⟨0, _⟩ => rfl
    | ⟨1, _⟩ => rfl
    | ⟨2, _⟩ => rfl
  have er : ridx_main_v26 (ix3 0 s j) v = ix2 v j := by
    funext a; apply Fin.ext
    match a with
    | ⟨0, _⟩ => rfl
    | ⟨1, _⟩ => rfl
  rw [el, er, v6_at, val_main_v25_apply, val_main_v24_apply, val_main_v23_apply, val_main_v22_apply]
  have e5 : idx_main_v23 (idx_main_v24 (ix2 v j)) = ix1 v := by
    funext a; apply Fin.ext
    match a with
    | ⟨0, _⟩ => rfl
  rw [e5]
  show D r0 x1 s v * (r2 (ix2 v j) * x5 (ix1 v)) = D r0 x1 s v * x5 (ix1 v) * r2 (ix2 v j)
  rw [mul_comm (r2 _), mul_assoc]

abbrev Sc := scatter_S151936x896_S256x1_S256x896_1_0_0_1

/-- Where an update lands: at the row its index names, at its own column. -/
theorem lands (idx : S256x1.Idx → BitVec 32) (t : Fin 256) (j : Fin 896) (h0 : (idx (ix2 t 0)).toNat < 151936) :
    Sc.resultIdx? (ix2 t j) idx = some (ix2 ⟨(idx (ix2 t 0)).toNat, h0⟩ j) := by
  have hi : (idx (ix2 t 0)).toInt = ((idx (ix2 t 0)).toNat : Int) := BitVec.toInt_eq_toNat_of_lt (by omega)
  have s0 : Sc.start (ix2 t j) idx 0 = ((idx (ix2 t 0)).toNat : Int) := by
    rw [← hi]
    unfold ScatterDims.start
    rw [dif_pos (by decide)]
    refine congrArg (fun i => (idx i).toInt) ?_
    funext b; apply Fin.ext
    match b with
    | ⟨0, _⟩ => rfl
    | ⟨1, _⟩ => rfl
  have s1 : Sc.start (ix2 t j) idx 1 = 0 := by
    unfold ScatterDims.start
    rw [dif_neg (by decide)]
  have w0 : Sc.window (ix2 t j) 0 = 0 := by
    unfold ScatterDims.window
    rw [dif_neg (by decide)]
  have w1 : Sc.window (ix2 t j) 1 = j.val := by
    unfold ScatterDims.window
    rw [dif_pos (by decide)]
    rfl
  have hj := j.isLt
  have hall : ∀ a, 0 ≤ Sc.start (ix2 t j) idx a + Sc.window (ix2 t j) a
      ∧ Sc.start (ix2 t j) idx a + Sc.window (ix2 t j) a < S151936x896.size a := fun a => by
    match a with
    | ⟨0, _⟩ =>
      show 0 ≤ Sc.start (ix2 t j) idx 0 + Sc.window (ix2 t j) 0 ∧ Sc.start (ix2 t j) idx 0 + Sc.window (ix2 t j) 0 < (151936 : ℕ)
      rw [s0, w0]; omega
    | ⟨1, _⟩ =>
      show 0 ≤ Sc.start (ix2 t j) idx 1 + Sc.window (ix2 t j) 1 ∧ Sc.start (ix2 t j) idx 1 + Sc.window (ix2 t j) 1 < (896 : ℕ)
      rw [s1, w1]; omega
  unfold ScatterDims.resultIdx?
  rw [dif_pos hall]
  refine congrArg some (funext fun a => Fin.ext ?_)
  match a with
  | ⟨0, _⟩ =>
    show (Sc.start (ix2 t j) idx 0 + Sc.window (ix2 t j) 0).toNat = (idx (ix2 t 0)).toNat
    rw [s0, w0]; omega
  | ⟨1, _⟩ =>
    show (Sc.start (ix2 t j) idx 1 + Sc.window (ix2 t j) 1).toNat = j.val
    rw [s1, w1]; omega

/-- The row an update names: the listed one, not negative. -/
theorem v20_at (x6 : S1x256.Idx → BitVec 32) (t : Fin 256) (h : row x6 t.val < 151936) :
    (val_main_v20 (F := Ideal) x6 (ix2 t 0)).toNat = row x6 t.val := by
  have ht := t.isLt
  have e12 : val_main_v12 (F := Ideal) x6 (ix1 t) = x6 (ix2 0 t) := by
    rw [val_main_v12_apply]
    refine congrArg x6 (funext fun a => Fin.ext ?_)
    match a with
    | ⟨0, _⟩ => rfl
    | ⟨1, _⟩ => show t.val % 256 = t.val; omega
  have hr : row x6 t.val = (x6 (ix2 0 t)).toNat := dif_pos ht
  have e20 : idx_main_v20 (ix2 t 0) = ix1 t := by
    funext a; apply Fin.ext
    match a with
    | ⟨0, _⟩ => rfl
  rw [val_main_v20_apply, e20, val_main_v19_apply, val_main_v16_apply, e12, val_main_v15_apply, val_main_c_apply, hr]
  rw [hr] at h
  have hi : (x6 (ix2 0 t)).toInt = ((x6 (ix2 0 t)).toNat : Int) := BitVec.toInt_eq_toNat_of_lt (by omega)
  have hc : IntOp.cmpi .slt (x6 (ix2 0 t)) 0#32 = 0#1 := by
    have : (x6 (ix2 0 t)).slt 0#32 = false := by
      rw [BitVec.slt, hi]
      simp
    simp [IntOp.cmpi, this]
  rw [hc]
  rfl

/-- The table's gradient. -/
theorem v21_at (x1 : S1x2x151936.Idx → EReal) (x3 : S1x256.Idx → EReal) (x6 : S1x256.Idx → BitVec 32) (x7 : S1x256x896.Idx → EReal)
    (r0 : S1x256x151936.Idx → EReal) (r1 : S1x256x896.Idx → EReal) (hids : ∀ t, row x6 t < 151936) (v : Fin 151936) (j : Fin 896) :
    val_main_v21 (F := Ideal) x1 x3 x6 x7 r0 r1 (ix2 v j) = dE r0 x1 r1 x3 x6 x7 v j := by
  have hl : ∀ (t : Fin 256) (k : Fin 896), Sc.resultIdx? (ix2 t k) (val_main_v20 (F := Ideal) x6) = some (ix2 ⟨row x6 t.val, hids _⟩ k) := fun t k => by
    have e := v20_at x6 t (hids _)
    rw [lands _ t k (by rw [e]; exact hids _)]
    refine congrArg some (congrArg (ix2 · k) (Fin.ext e))
  have e14 : ∀ (t : Fin 256) (k : Fin 896), val_main_v14 (F := Ideal) x7 (ix2 t k) = x7 (ix3 0 t k) := fun t k => by
    have ht := t.isLt
    have hk := k.isLt
    rw [val_main_v14_apply, val_main_v13_apply]
    refine congrArg x7 (funext fun a => Fin.ext ?_)
    match a with
    | ⟨0, _⟩ => rfl
    | ⟨1, _⟩ => show (t.val * 896 + k.val) / 896 % 256 = t.val; omega
    | ⟨2, _⟩ => show (t.val * 896 + k.val) % 896 = k.val; omega
  unfold val_main_v21
  show Ideal.hostScatterAdd Sc _ _ _ (ix2 v j) = _
  unfold Ideal.hostScatterAdd
  rw [v11_at, dE]
  refine congrArg (_ + ·) ?_
  rw [Finset.sum_filter]
  refine (sum_idx2 _).trans ?_
  refine Finset.sum_congr rfl fun t _ => ?_
  have hc : ∀ k, (Sc.resultIdx? (ix2 t k) (val_main_v20 (F := Ideal) x6) = some (ix2 v j)) ↔ (row x6 t.val = v.val ∧ k = j) := fun k => by
    rw [hl t k]
    constructor
    · intro h
      have h := Option.some.inj h
      exact ⟨congrArg Fin.val (congrFun h 0), congrFun h 1⟩
    · rintro ⟨h, rfl⟩
      exact congrArg some (congrArg (ix2 · k) (Fin.ext h))
  by_cases h : row x6 t.val = v.val
  · rw [if_pos h, Finset.sum_eq_single j]
    · rw [if_pos ((hc j).mpr ⟨h, rfl⟩), e14]
    · intro k _ hk
      exact if_neg fun q => hk ((hc k).mp q).2
    · intro q; exact absurd (Finset.mem_univ _) q
  · rw [if_neg h]
    exact Finset.sum_eq_zero fun k _ => if_neg fun q => h ((hc k).mp q).1

end Cert.Proof.RI

end
-- ==== Proof.RI.Value.lean ====
/-
  The reference's run over the extended reals: its two results, element by element.
-/
module

public import proofs.«01_k».proof.Proof.RI.Sums

@[expose] public section

noncomputable section

namespace Cert.Proof.RI

open Cert.ReferenceIdeal Cert.ReferenceIdeal.Gen Cert.ReferenceIdeal.Read Cert.ReferenceIdeal.Value
open Idealize.ShloMosaic Idealize.ShloMosaic.ValueIdx
open Idealize.ShloMosaic.TcCoe Idealize.SL.Sem
open Idealize.ShloMosaic.Pipeline (Dat Cfg Window)
open Cert.Link Cert.Spec
open scoped BigOperators

theorem zeros2 : (![0, 0] : Fin 2 → ℕ) = fun _ => 0 := by decide
theorem zeros3 : (![0, 0, 0] : Fin 3 → ℕ) = fun _ => 0 := by decide

variable (m : (ℓ : Loc nD τ sig) → Buf (Elt Ideal) ℓ)

theorem blk_0 (c : Dev nD) (t : Fin cfg0.N) : iblk (F := Ideal) m c 0 t = m ((c.tc : Thread nD τ).loc main_arg0) := by
  have h : ∀ a, win0_0.index t a = 0 := fun a => rfl
  funext y
  change V m c main_arg0 ((win0_0.rect t).emb y) = _
  rw [V_main_arg0]
  refine congrArg _ (funext fun a => Fin.ext ?_)
  exact win0_0.rect_emb_val_of_index_zero t a (h a) y
/-- The argument widened. -/
theorem reg_0 (c : Dev nD) : reg_main_v0_0 (F := Ideal) m c = m ((c.tc : Thread nD τ).loc main_arg0) := by
  unfold reg_main_v0_0
  refine (Gen.dats (F := Ideal) m 0 c).arrAt_eq_of_cover 3 _ (fun t _ => ?_) (fun i => ?_)
  · have h : ∀ a, win0_3.index t a = 0 := fun a => rfl
    have e : (Gen.dats (F := Ideal) m 0 c).after 3 t = k0_pay1 (F := Ideal) (m ((c.tc : Thread nD τ).loc main_arg0)) := by
      rw [after0_3, out0_3]
      refine (View.canon_unit_zero zeros3 _ _).trans ?_
      rw [blk_0]
      exact congrArg _ (View.ld_unit_zero zeros3 _ _)
    refine (congrArg (win0_3.cut (grid0.coords t)) e).trans ?_
    funext y
    change k0_pay1 (F := Ideal) (m ((c.tc : Thread nD τ).loc main_arg0)) y = k0_pay1 (F := Ideal) (m ((c.tc : Thread nD τ).loc main_arg0)) ((win0_3.rect t).emb y)
    refine congrArg _ (funext fun a => Fin.ext ?_)
    exact (win0_3.rect_emb_val_of_index_zero t a (h a) y).symm
  · have hN : 0 < grid0.N := by decide
    refine ⟨⟨0, hN⟩, flush0_3 _, ?_⟩
    show i ∈ ((View.whole main_v0_0).slice (win0_3.rect ⟨0, hN⟩)).set
    rw [View.set_slice_whole, Rect.mem_set_unit]
    intro a
    match a with
    | ⟨0, _⟩ =>
      show win0_3.index ⟨0, hN⟩ 0 * 1 ≤ (i 0).val ∧ (i 0).val < win0_3.index ⟨0, hN⟩ 0 * 1 + 1
      have hi : (i 0).val < 1 := (i 0).isLt
      have hx : win0_3.index ⟨0, hN⟩ 0 = 0 := rfl
      rw [hx]; omega
    | ⟨1, _⟩ =>
      show win0_3.index ⟨0, hN⟩ 1 * 256 ≤ (i 1).val ∧ (i 1).val < win0_3.index ⟨0, hN⟩ 1 * 256 + 256
      have hi : (i 1).val < 256 := (i 1).isLt
      have hx : win0_3.index ⟨0, hN⟩ 1 = 0 := rfl
      rw [hx]; omega
    | ⟨2, _⟩ =>
      show win0_3.index ⟨0, hN⟩ 2 * 151936 ≤ (i 2).val ∧ (i 2).val < win0_3.index ⟨0, hN⟩ 2 * 151936 + 151936
      have hi : (i 2).val < 151936 := (i 2).isLt
      have hx : win0_3.index ⟨0, hN⟩ 2 = 0 := rfl
      rw [hx]; omega

theorem blk_1 (c : Dev nD) (t : Fin cfg0.N) : iblk (F := Ideal) m c 1 t = m ((c.tc : Thread nD τ).loc main_arg2) := by
  have h : ∀ a, win0_1.index t a = 0 := fun a => rfl
  funext y
  change V m c main_arg2 ((win0_1.rect t).emb y) = _
  rw [V_main_arg2]
  refine congrArg _ (funext fun a => Fin.ext ?_)
  exact win0_1.rect_emb_val_of_index_zero t a (h a) y
/-- The argument widened. -/
theorem reg_1 (c : Dev nD) : reg_main_v0_1 (F := Ideal) m c = m ((c.tc : Thread nD τ).loc main_arg2) := by
  unfold reg_main_v0_1
  refine (Gen.dats (F := Ideal) m 0 c).arrAt_eq_of_cover 4 _ (fun t _ => ?_) (fun i => ?_)
  · have h : ∀ a, win0_4.index t a = 0 := fun a => rfl
    have e : (Gen.dats (F := Ideal) m 0 c).after 4 t = k0_pay2 (F := Ideal) (m ((c.tc : Thread nD τ).loc main_arg2)) := by
      rw [after0_4, out0_4]
      refine (View.canon_unit_zero zeros3 _ _).trans ?_
      rw [blk_1]
      exact congrArg _ (View.ld_unit_zero zeros3 _ _)
    refine (congrArg (win0_4.cut (grid0.coords t)) e).trans ?_
    funext y
    change k0_pay2 (F := Ideal) (m ((c.tc : Thread nD τ).loc main_arg2)) y = k0_pay2 (F := Ideal) (m ((c.tc : Thread nD τ).loc main_arg2)) ((win0_4.rect t).emb y)
    refine congrArg _ (funext fun a => Fin.ext ?_)
    exact (win0_4.rect_emb_val_of_index_zero t a (h a) y).symm
  · have hN : 0 < grid0.N := by decide
    refine ⟨⟨0, hN⟩, flush0_4 _, ?_⟩
    show i ∈ ((View.whole main_v0_1).slice (win0_4.rect ⟨0, hN⟩)).set
    rw [View.set_slice_whole, Rect.mem_set_unit]
    intro a
    match a with
    | ⟨0, _⟩ =>
      show win0_4.index ⟨0, hN⟩ 0 * 1 ≤ (i 0).val ∧ (i 0).val < win0_4.index ⟨0, hN⟩ 0 * 1 + 1
      have hi : (i 0).val < 1 := (i 0).isLt
      have hx : win0_4.index ⟨0, hN⟩ 0 = 0 := rfl
      rw [hx]; omega
    | ⟨1, _⟩ =>
      show win0_4.index ⟨0, hN⟩ 1 * 256 ≤ (i 1).val ∧ (i 1).val < win0_4.index ⟨0, hN⟩ 1 * 256 + 256
      have hi : (i 1).val < 256 := (i 1).isLt
      have hx : win0_4.index ⟨0, hN⟩ 1 = 0 := rfl
      rw [hx]; omega
    | ⟨2, _⟩ =>
      show win0_4.index ⟨0, hN⟩ 2 * 896 ≤ (i 2).val ∧ (i 2).val < win0_4.index ⟨0, hN⟩ 2 * 896 + 896
      have hi : (i 2).val < 896 := (i 2).isLt
      have hx : win0_4.index ⟨0, hN⟩ 2 = 0 := rfl
      rw [hx]; omega

theorem blk_2 (c : Dev nD) (t : Fin cfg0.N) : iblk (F := Ideal) m c 2 t = m ((c.tc : Thread nD τ).loc main_arg4) := by
  have h : ∀ a, win0_2.index t a = 0 := fun a => rfl
  funext y
  change V m c main_arg4 ((win0_2.rect t).emb y) = _
  rw [V_main_arg4]
  refine congrArg _ (funext fun a => Fin.ext ?_)
  exact win0_2.rect_emb_val_of_index_zero t a (h a) y
/-- The argument widened. -/
theorem reg_2 (c : Dev nD) : reg_main_v0_2 (F := Ideal) m c = fun i => FloatOps.sitofp (F := Ideal) .bf16 (m ((c.tc : Thread nD τ).loc main_arg4) i) := by
  unfold reg_main_v0_2
  refine (Gen.dats (F := Ideal) m 0 c).arrAt_eq_of_cover 5 _ (fun t _ => ?_) (fun i => ?_)
  · have h : ∀ a, win0_5.index t a = 0 := fun a => rfl
    have e : (Gen.dats (F := Ideal) m 0 c).after 5 t = k0_pay3 (F := Ideal) (m ((c.tc : Thread nD τ).loc main_arg4)) := by
      rw [after0_5, out0_5]
      refine (View.canon_unit_zero zeros2 _ _).trans ?_
      rw [blk_2]
      exact congrArg _ (View.ld_unit_zero zeros2 _ _)
    refine (congrArg (win0_5.cut (grid0.coords t)) e).trans ?_
    funext y
    change k0_pay3 (F := Ideal) (m ((c.tc : Thread nD τ).loc main_arg4)) y = k0_pay3 (F := Ideal) (m ((c.tc : Thread nD τ).loc main_arg4)) ((win0_5.rect t).emb y)
    refine congrArg _ (funext fun a => Fin.ext ?_)
    exact (win0_5.rect_emb_val_of_index_zero t a (h a) y).symm
  · have hN : 0 < grid0.N := by decide
    refine ⟨⟨0, hN⟩, flush0_5 _, ?_⟩
    show i ∈ ((View.whole main_v0_2).slice (win0_5.rect ⟨0, hN⟩)).set
    rw [View.set_slice_whole, Rect.mem_set_unit]
    intro a
    match a with
    | ⟨0, _⟩ =>
      show win0_5.index ⟨0, hN⟩ 0 * 151936 ≤ (i 0).val ∧ (i 0).val < win0_5.index ⟨0, hN⟩ 0 * 151936 + 151936
      have hi : (i 0).val < 151936 := (i 0).isLt
      have hx : win0_5.index ⟨0, hN⟩ 0 = 0 := rfl
      rw [hx]; omega
    | ⟨1, _⟩ =>
      show win0_5.index ⟨0, hN⟩ 1 * 896 ≤ (i 1).val ∧ (i 1).val < win0_5.index ⟨0, hN⟩ 1 * 896 + 896
      have hi : (i 1).val < 896 := (i 1).isLt
      have hx : win0_5.index ⟨0, hN⟩ 1 = 0 := rfl
      rw [hx]; omega

abbrev dlR (c : Dev nD) : S1x256x151936.Idx → EReal := m ((c.tc : Thread nD τ).loc main_arg0)
abbrev dlsR (c : Dev nD) : S1x2x151936.Idx → EReal := m ((c.tc : Thread nD τ).loc main_arg1)
abbrev hR (c : Dev nD) : S1x256x896.Idx → EReal := m ((c.tc : Thread nD τ).loc main_arg2)
abbrev hsR (c : Dev nD) : S1x256.Idx → EReal := m ((c.tc : Thread nD τ).loc main_arg3)
abbrev eR (c : Dev nD) : S151936x896.Idx → EReal := fun i => FloatOps.sitofp (F := Ideal) .bf16 (m ((c.tc : Thread nD τ).loc main_arg4) i)
abbrev esR (c : Dev nD) : S151936.Idx → EReal := m ((c.tc : Thread nD τ).loc main_arg5)
abbrev idsR (c : Dev nD) : S1x256.Idx → BitVec 32 := m ((c.tc : Thread nD τ).loc main_arg6)
abbrev dembR (c : Dev nD) : S1x256x896.Idx → EReal := m ((c.tc : Thread nD τ).loc main_arg7)

/-- The reference's run: its two results are the two gradients, its arguments end as they began. -/
theorem run_value (ρ : Dev nD → PrngReg) (hids : ∀ c t, row (idsR m c) t < 151936) :
    θ_run defs (onTc (τ := τ) (main (F := Ideal))) ⟨m, fun _ => 0, ρ⟩ (fun r => ∀ c : Dev nD,
      r.2.mem ((c.tc : Thread nD τ).loc main_v21) = (fun i => dE (dlR m c) (dlsR m c) (hR m c) (hsR m c) (idsR m c) (dembR m c) (i 0) (i 1))
      ∧ r.2.mem ((c.tc : Thread nD τ).loc main_v27) = (fun i => dH (dlR m c) (dlsR m c) (eR m c) (esR m c) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨(h c).1.trans ?_, (h c).2.1.trans ?_, (h c).2.2⟩) (Value.run (F := Ideal) m ρ)
  · have e := val_main_v21_eq (F := Ideal) (exitV m c)
    rw [exit_main_arg1, exit_main_arg3, exit_main_arg6, exit_main_arg7, exit_main_v0_0, exit_main_v0_1] at e
    refine e.trans ?_
    rw [reg_0, reg_1]
    funext i
    have hi : i = ix2 (i 0) (i 1) := by
      funext a
      match a with
      | ⟨0, _⟩ => rfl
      | ⟨1, _⟩ => rfl
    refine (congrArg _ hi).trans ?_
    exact v21_at (dlsR m c) (hsR m c) (idsR m c) (dembR m c) (dlR m c) (hR m c) (hids c) (i 0) (i 1)
  · have e := val_main_v27_eq (F := Ideal) (exitV m c)
    rw [exit_main_arg1, exit_main_arg5, exit_main_v0_0, exit_main_v0_2] at e
    refine e.trans ?_
    rw [reg_0, reg_2]
    funext i
    have h0 : (i 0).val < 1 := (i 0).isLt
    have hi : i = ix3 (0 : Fin 1) (i 1) (i 2) := by
      funext a
      match a with
      | ⟨0, _⟩ => exact Fin.ext (show (i 0).val = 0 by omega)
      | ⟨1, _⟩ => rfl
      | ⟨2, _⟩ => rfl
    refine (congrArg _ hi).trans ?_
    exact v27_at (dlsR m c) (esR m c) (dlR m c) (eR m c) (i 1) (i 2)

end Cert.Proof.RI

end
-- ==== Proof.Same.lean ====
/-
  The value claim: over the extended reals the kernel and the reference end with the same two arrays.
-/
module

public import proofs.«01_k».proof.Defs
public import proofs.«01_k».proof.Proof.KI.Final
public import proofs.«01_k».proof.Proof.RI.Value

@[expose] public section

noncomputable section

namespace Cert.Proof

open Idealize.ShloMosaic Idealize.SL.Sem
open Idealize.ShloMosaic.TcCoe

/-- From memories whose arguments agree and whose row numbers name rows, both programs end with the table's gradient and
    the hidden gradient, the same arrays of extended reals, and with their arguments unchanged. -/
theorem same [Cert.Pre_ids_name_rows.Facts] : Cert.algebraic_KernelIdeal_ReferenceIdeal := by
  intro m g m' g' hpre hargs
  have hids : ∀ c t, Cert.Link.row (Cert.Proof.KI.idsC m c) t < 151936 := fun c t => row_lt_of_pre _ _ _ _ _ _ _ _ (hpre c) t
  refine ⟨fun c => Cert.Proof.KI.G8 m c, fun c => Cert.Proof.KI.G9 m c, ?_, ?_⟩
  · refine (θ_run Cert.KernelIdeal.defs _ _).mono (fun r h c => ?_)
      (Cert.Proof.KI.run_main (F := Ideal) m g fun c t => by rw [Cert.Proof.KI.V_idx]; exact hids c t)
    exact ⟨((h.1 c).1 8).trans (Cert.Proof.KI.final8 m c), ((h.1 c).1 9).trans (Cert.Proof.KI.final9 m c), Cert.Proof.KI.kept m c r.2 (h.1 c)⟩
  · refine (θ_run Cert.ReferenceIdeal.defs _ _).mono (fun r h c => ?_) (Cert.Proof.RI.run_value m' g' fun c t => ?_)
    · obtain ⟨h0, h1, hk⟩ := h c
      obtain ⟨e0, e1, e2, e3, e4, e5, e6, e7⟩ := hargs c
      refine ⟨h0.trans ?_, h1.trans ?_, hk⟩
      · have a0 : Cert.Proof.RI.dlR m' c = Cert.Proof.KI.dlC m c := e0
        have a1 : Cert.Proof.RI.dlsR m' c = Cert.Proof.KI.dlsC m c := e1
        have a2 : Cert.Proof.RI.hR m' c = Cert.Proof.KI.hC m c := e2
        have a3 : Cert.Proof.RI.hsR m' c = Cert.Proof.KI.hsC m c := e3
        have a6 : Cert.Proof.RI.idsR m' c = Cert.Proof.KI.idsC m c := e6
        have a7 : Cert.Proof.RI.dembR m' c = Cert.Proof.KI.dembC m c := e7
        rw [a0, a1, a2, a3, a6, a7]
        rfl
      · have a0 : Cert.Proof.RI.dlR m' c = Cert.Proof.KI.dlC m c := e0
        have a1 : Cert.Proof.RI.dlsR m' c = Cert.Proof.KI.dlsC m c := e1
        have a4 : Cert.Proof.RI.eR m' c = Cert.Proof.KI.eC m c :=
          funext fun i => congrArg (FloatOps.sitofp (F := Ideal) .bf16) (congrFun e4 i)
        have a5 : Cert.Proof.RI.esR m' c = Cert.Proof.KI.esC m c := e5
        rw [a0, a1, a4, a5]
        rfl
    · have a6 : Cert.Proof.RI.idsR m' c = Cert.Proof.KI.idsC m c := (hargs c).2.2.2.2.2.2.1
      rw [a6]
      exact hids c t

end Cert.Proof

end
-- ==== Proof.lean ====
/-
  The proof of `Cert.Claim`.
-/
module

public import proofs.«01_k».proof.Defs
public import proofs.«01_k».proof.Proof.K.Run
public import proofs.«01_k».proof.Proof.Same

@[expose] public section

noncomputable section

namespace Cert.Proof

/-- The claims: the three programs run to quiescence with their arguments unchanged, nothing was rewritten between the
    first two, and over the extended reals the kernel computes the reference's two results. -/
theorem claim : Cert.Claim :=
  ⟨Cert.Kernel.Gen.facts, Cert.KernelIdeal.Gen.facts, Cert.ReferenceIdeal.Gen.facts, preFacts,
    @Cert.Proof.K.frame preFacts, @Cert.Proof.KI.frame preFacts,
    fun m g _ => Cert.ReferenceIdeal.Gen.frame m g, fun m g _ => Cert.ReferenceIdeal.Gen.frame m g,
    trivial, @same preFacts⟩

end Cert.Proof

end
